-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "init_step" .f32 0xB5EBEDFA#32 ((-9 / 5120000 : ℝ) : EReal)
  ∧ IdealRules.named_const.Statement Cert.KernelIdeal.κ "init_first" .f32 0x3A83126F#32 ((1 / 1000 : ℝ) : EReal)

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S32x513x4000 : Shape := ⟨3, ![32, 513, 4000]⟩
abbrev S_ : Shape := ⟨0, ![]⟩

class Facts : Prop where
  bcast_S_S32x513x4000 : S_.BroadcastsInDim S32x513x4000 (![] : Fin 0 → Fin S32x513x4000.rank)

variable [Facts]

def fn {F : FTy → Type} [FloatOps F] (main_arg0 : FVec F S32x513x4000 .f32) : IVec S32x513x4000 1 :=
  let main_cst : FVec F S_ .f32 := constant S_ .f32 0x7F800000#32
  let main_v0 : FVec F S32x513x4000 .f32 := broadcastInDim S32x513x4000 ![] bcast_S_S32x513x4000 main_cst
  let main_v1 : IVec S32x513x4000 1 := cmpf .olt main_arg0 main_v0
  main_v1
-- ==== Kernel.lean ====
abbrev S32x513x4000 : Shape := ⟨3, ![32, 513, 4000]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x513x2048 : Shape := ⟨3, ![2, 513, 2048]⟩
abbrev S2x513x256 : Shape := ⟨3, ![2, 513, 256]⟩
abbrev S513x256 : Shape := ⟨2, ![513, 256]⟩
abbrev S1x513x256 : Shape := ⟨3, ![1, 513, 256]⟩

abbrev nBuf : Space → Nat
  | .hbm => 46
  | .vmem => 7
  | .smem => 0
  | _ => 0

abbrev bufTy : (tb : Table) → Fin (tcTables nBuf tb) → BufTy
  | .hbm, ⟨0, _⟩ => ⟨S32x513x4000, .f32⟩
  | .hbm, ⟨1, _⟩ => ⟨S256, .i32⟩
  | .hbm, ⟨2, _⟩ => ⟨S256x1, .i32⟩
  | .hbm, ⟨3, _⟩ => ⟨S256x1, .f32⟩
  | .hbm, ⟨4, _⟩ => ⟨S256, .i32⟩
  | .hbm, ⟨5, _⟩ => ⟨S1x256, .i32⟩
  | .hbm, ⟨6, _⟩ => ⟨S1x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x1, .f32⟩
  | .hbm, ⟨30, _⟩ => ⟨S256x1, .i1⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S_, .f32⟩
  | .hbm, ⟨39, _⟩ => ⟨S256x256, .i1⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .bf16⟩
  | .hbm, ⟨44, _⟩ => ⟨S256x256, .bf16⟩
  | .hbm, ⟨45, _⟩ => ⟨S32x513x4000, .f32⟩
  | .local _ .vmem, ⟨0, _⟩ => ⟨S2x513x2048, .f32⟩
  | .local _ .vmem, ⟨1, _⟩ => ⟨S2x513x2048, .f32⟩
  | .local _ .vmem, ⟨2, _⟩ => ⟨S256x256, .bf16⟩
  | .local _ .vmem, ⟨3, _⟩ => ⟨S256x256, .bf16⟩
  | .local _ .vmem, ⟨4, _⟩ => ⟨S2x513x2048, .f32⟩
  | .local _ .vmem, ⟨5, _⟩ => ⟨S2x513x2048, .f32⟩
  | .local _ .vmem, ⟨6, _⟩ => ⟨S2x513x256, .bf16⟩
  | _, _ => ⟨S32x513x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_call0_v6 : Ref sig .tc := ⟨.hbm, 7, rfl⟩
abbrev main_call0_v7 : Ref sig .tc := ⟨.hbm, 8, rfl⟩
abbrev main_call0_v8 : Ref sig .tc := ⟨.hbm, 9, rfl⟩
abbrev main_call0_cst : Ref sig .tc := ⟨.hbm, 10, rfl⟩
abbrev main_call0_v9 : Ref sig .tc := ⟨.hbm, 11, rfl⟩
abbrev main_call0_v10 : Ref sig .tc := ⟨.hbm, 12, rfl⟩
abbrev main_call0_cst_0 : Ref sig .tc := ⟨.hbm, 13, rfl⟩
abbrev main_call0_cst_1 : Ref sig .tc := ⟨.hbm, 14, rfl⟩
abbrev main_call0_v11 : Ref sig .tc := ⟨.hbm, 15, rfl⟩
abbrev main_call0_cst_2 : Ref sig .tc := ⟨.hbm, 16, rfl⟩
abbrev main_call0_v12 : Ref sig .tc := ⟨.hbm, 17, rfl⟩
abbrev main_call0_v13 : Ref sig .tc := ⟨.hbm, 18, rfl⟩
abbrev main_call0_cst_3 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_cst_4 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_v18 : Ref sig .tc := ⟨.hbm, 27, rfl⟩
abbrev main_call0_cst_5 : Ref sig .tc := ⟨.hbm, 28, rfl⟩
abbrev main_call0_v19 : Ref sig .tc := ⟨.hbm, 29, rfl⟩
abbrev main_call0_v20 : Ref sig .tc := ⟨.hbm, 30, rfl⟩
abbrev main_call0_cst_6 : Ref sig .tc := ⟨.hbm, 31, rfl⟩
abbrev main_call0_v21 : Ref sig .tc := ⟨.hbm, 32, rfl⟩
abbrev main_call0_v22 : Ref sig .tc := ⟨.hbm, 33, rfl⟩
abbrev main_call0_cst_7 : Ref sig .tc := ⟨.hbm, 34, rfl⟩
abbrev main_call0_v23 : Ref sig .tc := ⟨.hbm, 35, rfl⟩
abbrev main_call0_v24 : Ref sig .tc := ⟨.hbm, 36, rfl⟩
abbrev main_call0_cst_8 : Ref sig .tc := ⟨.hbm, 37, rfl⟩
abbrev main_call0_call1_v0 : Ref sig .tc := ⟨.hbm, 38, rfl⟩
abbrev main_call0_call1_v1 : Ref sig .tc := ⟨.hbm, 39, rfl⟩
abbrev main_call0_call1_v2 : Ref sig .tc := ⟨.hbm, 40, rfl⟩
abbrev main_call0_call1_v3 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x513x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x513x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "init_first" => some ((1 / 1000 : ℝ) : EReal)
  | "init_step" => some ((-9 / 5120000 : ℝ) : EReal)
  | _ => none
-- ==== ReferenceIdeal.lean ====
abbrev S32x513x4000 : Shape := ⟨3, ![32, 513, 4000]⟩
abbrev S_ : Shape := ⟨0, ![]⟩
abbrev S512 : Shape := ⟨1, ![512]⟩
abbrev S1 : Shape := ⟨1, ![1]⟩
abbrev S513 : Shape := ⟨1, ![513]⟩
abbrev S1x513 : Shape := ⟨2, ![1, 513]⟩
abbrev S32x513 : Shape := ⟨2, ![32, 513]⟩
abbrev S4000x32x513 : Shape := ⟨3, ![4000, 32, 513]⟩
abbrev S1x32x513 : Shape := ⟨3, ![1, 32, 513]⟩

abbrev nBuf : Space → Nat
  | .hbm => 65
  | .vmem => 0
  | .smem => 0
  | _ => 0

abbrev bufTy : (tb : Table) → Fin (tcTables nBuf tb) → BufTy
  | .hbm, ⟨0, _⟩ => ⟨S32x513x4000, .f32⟩
  | .hbm, ⟨1, _⟩ => ⟨S_, .f32⟩
  | .hbm, ⟨2, _⟩ => ⟨S32x513x4000, .f32⟩
  | .hbm, ⟨3, _⟩ => ⟨S32x513x4000, .f32⟩
  | .hbm, ⟨4, _⟩ => ⟨S32x513x4000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S1, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S1, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1, .f32⟩
  | .hbm, ⟨27, _⟩ => ⟨S513, .f32⟩
  | .hbm, ⟨28, _⟩ => ⟨S_, .f32⟩
  | .hbm, ⟨29, _⟩ => ⟨S513, .f32⟩
  | .hbm, ⟨30, _⟩ => ⟨S513, .f32⟩
  | .hbm, ⟨31, _⟩ => ⟨S1x513, .f32⟩
  | .hbm, ⟨32, _⟩ => ⟨S32x513, .f32⟩
  | .hbm, ⟨33, _⟩ => ⟨S4000x32x513, .f32⟩
  | .hbm, ⟨34, _⟩ => ⟨S_, .f32⟩
  | .hbm, ⟨35, _⟩ => ⟨S_, .f32⟩
  | .hbm, ⟨36, _⟩ => ⟨S4000x32x513, .f32⟩
  | .hbm, ⟨37, _⟩ => ⟨S_, .i32⟩
  | .hbm, ⟨38, _⟩ => ⟨S4000x32x513, .f32⟩
  | .hbm, ⟨39, _⟩ => ⟨S_, .f32⟩
  | .hbm, ⟨40, _⟩ => ⟨S_, .i32⟩
  | .hbm, ⟨41, _⟩ => ⟨S32x513, .f32⟩
  | .hbm, ⟨42, _⟩ => ⟨S4000x32x513, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S1x32x513, .f32⟩
  | .hbm, ⟨48, _⟩ => ⟨S32x513, .f32⟩
  | .hbm, ⟨49, _⟩ => ⟨S_, .f32⟩
  | .hbm, ⟨50, _⟩ => ⟨S_, .f32⟩
  | .hbm, ⟨51, _⟩ => ⟨S32x513, .f32⟩
  | .hbm, ⟨52, _⟩ => ⟨S32x513, .f32⟩
  | .hbm, ⟨53, _⟩ => ⟨S32x513, .f32⟩
  | .hbm, ⟨54, _⟩ => ⟨S32x513, .f32⟩
  | .hbm, ⟨55, _⟩ => ⟨S32x513, .f32⟩
  | .hbm, ⟨56, _⟩ => ⟨S1x32x513, .f32⟩
  | .hbm, ⟨57, _⟩ => ⟨S_, .i32⟩
  | .hbm, ⟨58, _⟩ => ⟨S_, .i32⟩
  | .hbm, ⟨59, _⟩ => ⟨S4000x32x513, .f32⟩
  | .hbm, ⟨60, _⟩ => ⟨S_, .i32⟩
  | .hbm, ⟨61, _⟩ => ⟨S_, .i32⟩
  | .hbm, ⟨62, _⟩ => ⟨S32x513x4000, .f32⟩
  | .hbm, ⟨63, _⟩ => ⟨S32x513x4000, .f32⟩
  | .hbm, ⟨64, _⟩ => ⟨S32x513x4000, .f32⟩
  | _, _ => ⟨S32x513x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_3 : Ref sig .tc := ⟨.hbm, 34, rfl⟩
abbrev main_cst_4 : Ref sig .tc := ⟨.hbm, 35, rfl⟩
abbrev main_v9 : Ref sig .tc := ⟨.hbm, 36, rfl⟩
abbrev main_c : Ref sig .tc := ⟨.hbm, 37, rfl⟩
abbrev main_v10_0 : Ref sig .tc := ⟨.hbm, 38, rfl⟩
abbrev main_v10_1 : Ref sig .tc := ⟨.hbm, 39, rfl⟩
abbrev main_v10_2 : Ref sig .tc := ⟨.hbm, 40, rfl⟩
abbrev main_v10_3 : Ref sig .tc := ⟨.hbm, 41, rfl⟩
abbrev main_v10_4 : Ref sig .tc := ⟨.hbm, 42, rfl⟩
abbrev main_while0c_c_9 : Ref sig .tc := ⟨.hbm, 43, rfl⟩
abbrev main_while0c_v14 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_v0 : Ref sig .tc := ⟨.hbm, 47, rfl⟩
abbrev main_while0b_v14 : Ref sig .tc := ⟨.hbm, 48, rfl⟩
abbrev main_while0b_cst_9 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_call2_v0 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_v21 : Ref sig .tc := ⟨.hbm, 59, rfl⟩
abbrev main_while0b_c_10 : Ref sig .tc := ⟨.hbm, 60, rfl⟩
abbrev main_while0b_v22 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩

abbrev nD : Nat := 1
abbrev τ : Topo := Topo.v7x

variable {F : FTy → Type} [FloatOps F]

abbrev main_while0_count : Scf.Loop 32 := ⟨0#32, 4000#32, 1#32⟩
-- ==== Proof.KernelFrame.lean ====
/- The frame of `Kernel`: every run of the program ends, the argument array unchanged and every semaphore counter at zero.

   Nothing is said here of what the kernel computes. The body's triple therefore asks only that its six memrefs be owned, at any
   contents, and gives them back at any contents. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel.Gen

variable {F : FTy → Type} [FloatOps F]

local notation "𝕄" => MT nD τ sig Unit (Elt F) ℕ (UR sig nD τ) ℕ

/-- The scratch array that the kernel carries from one point of the grid to the next, as a memref. -/
abbrev scratch : Memref sig .tc .vmem S2x513x256 .bf16 := Memref.whole cc0_scratch0

/-- What a launch holds besides the windows: the scratch at some contents and the core's generator register. -/
theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

set_option maxHeartbeats 4000000 in
/-- The body runs from its operands at any contents, gives the three inputs back as they were and the output block and the
    scratch at some contents. -/
theorem body_runs (c : Dev nD) (i : grid0.Coords)
    (arg2 : Memref sig .tc .vmem S2x513x2048 .f32) (harg2 : arg2.IsWhole) (arg3 : Memref sig .tc .vmem S256x256 .bf16) (harg3 : arg3.IsWhole)
    (arg4 : Memref sig .tc .vmem S256x256 .bf16) (harg4 : arg4.IsWhole) (arg5 : Memref sig .tc .vmem S2x513x2048 .f32) (harg5 : arg5.IsWhole)
    (arg6 : Memref sig .tc .vmem S2x513x256 .bf16) (harg6 : arg6.IsWhole)
    (x0 : Vec F S2x513x2048 .f32) (x1 x2 : Vec F S256x256 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  by_cases hc : (Scalar.cmpi .ne (Scalar.extui (Scalar.cmpi .eq (BitVec.ofNat 32 (i 1).val) 0#32)) 0#32) = 1#1
  all_goals
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; iexists _; isplitr
      swap; · iexact H3
      ipureintro; rfl
    iexists _; iexists _; isplitr
    swap; · iexact H4
    ipureintro; rfl

variable (m : (ℓ : Loc nD τ sig) → Buf (Elt F) ℓ) (ρ : Dev nD → PrngReg)

/-- The proof's data: the arrays as the region finds them, and nothing said of any window's contents. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's row of the program table, at point `t`'s staging buffers. -/
theorem body_row (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := F)) Variants.none () Set.univ := fun t Y _ => by
  rw [bigSep_W0, bigSep_W0, body_row, show (rdat m c).Φ t.castSucc = Pipeline.ΦA spec0 c from rfl,
    show (rdat m c).Φ t.succ = Pipeline.ΦA spec0 c from rfl, show (rdat m c).owesAt () t.succ = (rdat m c).owesAt () t.castSucc from rfl,
    rest_eq]
  unfold bodyAt0
  iintro ⟨⟨HS, Hg⟩, Ho, H0, H1, H2, H3⟩
  iapply (body_runs c (grid0.coords t) _ _ _ _ _ _ _ _ _ _ (Y 0) (Y 1) (Y 2) Set.univ _)
  isplitl [H0]; · iexact H0
  isplitl [H1]; · iexact H1
  isplitl [H2]; · iexact H2
  isplitl [H3]; · iexists _; iexact H3
  isplitl [HS]; · iexact HS
  iintro ⟨H0, H1, H2, ⟨%d3, H3⟩, HS⟩
  isplitl [HS Hg]
  · isplitl [HS]; · iexact HS
    iexact Hg
  isplitl [Ho]; · iexact Ho
  isplitl [H0]
  · iexists _; isplitr
    swap; · iexact H0
    ipureintro; trivial
  isplitl [H1]
  · iexists _; isplitr
    swap; · iexact H1
    ipureintro; trivial
  isplitl [H2]
  · iexists _; isplitr
    swap; · iexact H2
    ipureintro; trivial
  iexists _; isplitr
  swap; · iexact H3
  ipureintro; trivial

set_option backward.isDefEq.respectTransparency.types false in
/-- Every run of the program ends with the argument array as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.RDat.θ_run_frame cfgs (0 : Fin 1) launch0 defs₀ Variants.none (rdat m) m ρ main (hbody := body_ok m)
    (hshare := fun c => (rdat m c).share_full fun _ => rfl) (howed := fun _ _ => rfl) (V := V m) (hmain := hmain m Variants.none)
    (hA := fun _ _ => rfl) (hΦ := fun _ _ => rfl) (Q' := _)
    (hQ' := fun _ h => ⟨fun c => (h.1.arr_in c 0 rfl).trans (V_main_arg0 m c), h.2⟩)

end Cert.Kernel.Run

end
-- ==== Proof.Blocks.lean ====
/- Where the pipeline puts the blocks: entry `y` of the block at point `t` of the grid is one entry of the array, for the input and for
   the output alike, as long as the block does not run past the array's end. -/
module

public import proofs.«01_k».proof.Proof.Gen.KernelIdeal.Frame
public import Idealize.ShloMosaic.Lib.Pointwise
public import Idealize.ShloMosaic.Lib.Pipeline.ValueKit.Geometry
public import Idealize.ShloMosaic.Lib.Pipeline.ArrRel

@[expose] public section

set_option maxRecDepth 16384

noncomputable section

namespace Cert.KernelIdeal.Run

open Idealize.ShloMosaic Cert.KernelIdeal Cert.KernelIdeal.Gen

/-- The entry of the array that is entry `y` of the block at point `t`: point `t` is time block `t % 2` of row block `t / 2`. -/
def spot (t : ℕ) (y : S2x513x2048.Idx) : S32x513x4000.Idx :=
  ix3 (Fin.ofNat 32 (2 * (t / 2) + (y 0).val)) (y 1) (Fin.ofNat 4000 (2048 * (t % 2) + (y 2).val))

/-- The coordinates of a point. -/
theorem coords_eq : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)

/-- The input block's index and how much of it is moved. -/
theorem index_in : ∀ t : Fin cfg0.N, ((cfg0.win 0).index t 0 = t.val / 2 ∧ (cfg0.win 0).index t 1 = 0 ∧ (cfg0.win 0).index t 2 = t.val % 2)
    ∧ (cfg0.win 0).xsize (grid0.coords t) 0 = 2 ∧ (cfg0.win 0).xsize (grid0.coords t) 1 = 513
    ∧ (cfg0.win 0).xsize (grid0.coords t) 2 = min 2048 (4000 - 2048 * (t.val % 2)) :=
  (by decide +kernel : ∀ t : Fin grid0.N, (win0_0.index t 0 = t.val / 2 ∧ win0_0.index t 1 = 0 ∧ win0_0.index t 2 = t.val % 2)
    ∧ win0_0.xsize (grid0.coords t) 0 = 2 ∧ win0_0.xsize (grid0.coords t) 1 = 513
    ∧ win0_0.xsize (grid0.coords t) 2 = min 2048 (4000 - 2048 * (t.val % 2)))

/-- The output block's index and how much of it is moved: as the input's. -/
theorem index_out : ∀ t : Fin cfg0.N, ((cfg0.win 3).index t 0 = t.val / 2 ∧ (cfg0.win 3).index t 1 = 0 ∧ (cfg0.win 3).index t 2 = t.val % 2)
    ∧ (cfg0.win 3).xsize (grid0.coords t) 0 = 2 ∧ (cfg0.win 3).xsize (grid0.coords t) 1 = 513
    ∧ (cfg0.win 3).xsize (grid0.coords t) 2 = min 2048 (4000 - 2048 * (t.val % 2)) :=
  (by decide +kernel : ∀ t : Fin grid0.N, (win0_3.index t 0 = t.val / 2 ∧ win0_3.index t 1 = 0 ∧ win0_3.index t 2 = t.val % 2)
    ∧ win0_3.xsize (grid0.coords t) 0 = 2 ∧ win0_3.xsize (grid0.coords t) 1 = 513
    ∧ win0_3.xsize (grid0.coords t) 2 = min 2048 (4000 - 2048 * (t.val % 2)))

/-- An entry of the block at column `j` of the row is moved when `j` is a column of the array. -/
theorem moved_in (t : Fin cfg0.N) (y : S2x513x2048.Idx) (hy : 2048 * (t.val % 2) + (y 2).val < 4000) :
    (cfg0.win 0).moved (grid0.coords t) y = true := by
  obtain ⟨-, h0, h1, h2⟩ := index_in t
  refine ((cfg0.win 0).moved_iff _ _).2 fun a => ?_
  have g2 : (y 2).val < 2048 := (y 2).isLt
  match a with
  | ⟨0, _⟩ => exact lt_of_lt_of_eq (y 0).isLt h0.symm
  | ⟨1, _⟩ => exact lt_of_lt_of_eq (y 1).isLt h1.symm
  | ⟨2, _⟩ => exact lt_of_lt_of_eq (show (y 2).val < min 2048 (4000 - 2048 * (t.val % 2)) by omega) h2.symm

/-- The array's entry under an entry of the input block. -/
theorem emb_in (t : Fin cfg0.N) (z : ((cfg0.win 0).xblock (grid0.coords t)).Idx) (y : S2x513x2048.Idx) (hz : ∀ a, (z a).val = (y a).val)
    (hy : 2048 * (t.val % 2) + (y 2).val < 4000) : (((cfg0.win 0).blk t).view.emb z : S32x513x4000.Idx) = spot t.val y := by
  obtain ⟨⟨i0, i1, i2⟩, -⟩ := index_in t
  have ht : t.val < 32 := lt_of_lt_of_eq t.isLt N_0
  have g0 : (y 0).val < 2 := (y 0).isLt
  funext a
  refine Fin.ext ?_
  match a with
  | ⟨0, _⟩ =>
    refine (show _ = (cfg0.win 0).index t 0 * 2 + 1 * (z 0).val from rfl).trans ?_
    rw [i0, hz 0]
    show _ = (2 * (t.val / 2) + (y 0).val) % 32
    omega
  | ⟨1, _⟩ =>
    refine (show _ = (cfg0.win 0).index t 1 * 513 + 1 * (z 1).val from rfl).trans ?_
    rw [i1, hz 1]
    show _ = (y 1).val
    omega
  | ⟨2, _⟩ =>
    refine (show _ = (cfg0.win 0).index t 2 * 2048 + 1 * (z 2).val from rfl).trans ?_
    rw [i2, hz 2]
    show _ = (2048 * (t.val % 2) + (y 2).val) % 4000
    omega

/-- The array's entry under an entry of the output block. -/
theorem emb_out (t : Fin cfg0.N) (z : ((cfg0.win 3).xblock (grid0.coords t)).Idx) :
    (((cfg0.win 3).blk t).view.emb z : S32x513x4000.Idx) = spot t.val ((cfg0.win 3).xinj (grid0.coords t) z)
      ∧ 2048 * (t.val % 2) + (z 2).val < 4000 := by
  obtain ⟨⟨i0, i1, i2⟩, h0, h1, h2⟩ := index_out t
  have ht : t.val < 32 := lt_of_lt_of_eq t.isLt N_0
  have g0 : (z 0).val < 2 := lt_of_lt_of_eq (z 0).isLt h0
  have g2 : (z 2).val < min 2048 (4000 - 2048 * (t.val % 2)) := lt_of_lt_of_eq (z 2).isLt h2
  refine ⟨?_, by omega⟩
  funext a
  refine Fin.ext ?_
  match a with
  | ⟨0, _⟩ =>
    refine (show _ = (cfg0.win 3).index t 0 * 2 + 1 * (z 0).val from rfl).trans ?_
    rw [i0]
    show _ = (2 * (t.val / 2) + (z 0).val) % 32
    omega
  | ⟨1, _⟩ =>
    refine (show _ = (cfg0.win 3).index t 1 * 513 + 1 * (z 1).val from rfl).trans ?_
    rw [i1]
    show _ = (z 1).val
    omega
  | ⟨2, _⟩ =>
    refine (show _ = (cfg0.win 3).index t 2 * 2048 + 1 * (z 2).val from rfl).trans ?_
    rw [i2]
    show _ = (2048 * (t.val % 2) + (z 2).val) % 4000
    omega

/-- The output blocks cover the array. -/
theorem covers_out : (cfg0.win 3).Covers := (by decide +kernel : win0_3.Covers)

end Cert.KernelIdeal.Run

end
-- ==== Proof.Ema.lean ====
/- The mathematics both programs compute: a first-order recurrence of real numbers, and its closed form over a chunk of 256 steps.

   One row of the input is one state: `state s0 a 0 = s0` and `state s0 a (n + 1) = (1 - α) · a n + α · state s0 a n`, where `a n` is the
   square root of the row's entry `n` (at least `1e-10`). The reference takes 4000 such steps; the kernel takes 256 of them at
   once, as a product with the powers of `α`. -/
module

public import Idealize.ShloMosaic.PureOps
public import Idealize.ShloMosaic.PureOps.Ideal

@[expose] public section

noncomputable section

namespace Cert.Ema

open Idealize.ShloMosaic

/-- The weight of the old state: the value of the single-precision word nearest `0.969`. -/
def α : ℝ := 8128561 / 8388608

/-- The floor under the input: the value of the single-precision word nearest `1e-10`. -/
def ε : ℝ := 14411519 / 144115188075855872

theorem α_pos : 0 < α := by unfold α; norm_num
theorem α_lt_one : α < 1 := by unfold α; norm_num
theorem ε_pos : 0 < ε := by unfold ε; norm_num

/-- The state after `n` steps from `s0`, driven by `a`. -/
def state (s0 : ℝ) (a : ℕ → ℝ) : ℕ → ℝ
  | 0 => s0
  | n + 1 => (1 - α) * a n + α * state s0 a n

/-- A positive start and nonnegative inputs keep every state positive. -/
theorem state_pos {s0 : ℝ} {a : ℕ → ℝ} (h0 : 0 < s0) (ha : ∀ n, 0 ≤ a n) : ∀ n, 0 < state s0 a n
  | 0 => h0
  | n + 1 => by
    have h1 := mul_nonneg (sub_pos.2 α_lt_one).le (ha n)
    have h2 := mul_pos α_pos (state_pos h0 ha n)
    show 0 < (1 - α) * a n + α * state s0 a n
    linarith

/-- The state depends on the inputs before it only. -/
theorem state_congr {s0 : ℝ} {a b : ℕ → ℝ} : ∀ n, (∀ k < n, a k = b k) → state s0 a n = state s0 b n
  | 0, _ => rfl
  | n + 1, h => by
    show (1 - α) * a n + α * state s0 a n = (1 - α) * b n + α * state s0 b n
    rw [h n (by omega), state_congr n fun k hk => h k (by omega)]

/-- The weight of input `s` of a chunk in the state after its step `t`. -/
def weight (s t : ℕ) : ℝ := if s ≤ t then (1 - α) * α ^ (t - s) else 0

/-- `j + 1` steps from step `n`, the inputs summed over those steps. -/
theorem state_steps (s0 : ℝ) (a : ℕ → ℝ) (n : ℕ) : ∀ j,
    state s0 a (n + j + 1) = (∑ s ∈ Finset.range (j + 1), a (n + s) * ((1 - α) * α ^ (j - s))) + state s0 a n * α ^ (j + 1)
  | 0 => by
    show (1 - α) * a n + α * state s0 a n = _
    simp; ring
  | j + 1 => by
    have e : state s0 a (n + (j + 1) + 1) = (1 - α) * a (n + (j + 1)) + α * state s0 a (n + j + 1) := rfl
    rw [e, state_steps s0 a n j, Finset.sum_range_succ _ (j + 1), mul_add, Finset.mul_sum]
    have h : ∀ s ∈ Finset.range (j + 1), α * (a (n + s) * ((1 - α) * α ^ (j - s))) = a (n + s) * ((1 - α) * α ^ (j + 1 - s)) := by
      intro s hs
      have : j + 1 - s = (j - s) + 1 := by have := Finset.mem_range.1 hs; omega
      rw [this, pow_succ]; ring
    rw [Finset.sum_congr rfl h]
    simp; ring

/-- The state after step `j` of a chunk of 256, as the sum over the whole chunk with the weights and the state carried in. -/
theorem state_chunk (s0 : ℝ) (a : ℕ → ℝ) (n j : ℕ) (hj : j < 256) :
    (∑ s : Fin 256, a (n + s) * weight s j) + state s0 a n * α ^ (j + 1) = state s0 a (n + j + 1) := by
  rw [state_steps, Fin.sum_univ_eq_sum_range (fun s => a (n + s) * weight s j) 256]
  congr 1
  refine (Finset.sum_subset (Finset.range_subset_range.2 (show j + 1 ≤ 256 by omega)) ?_).symm.trans ?_
  · intro s _ hs
    rw [weight, if_neg (by simpa using hs), mul_zero]
  · refine Finset.sum_congr rfl fun s hs => ?_
    rw [weight, if_pos (by have := Finset.mem_range.1 hs; omega)]

/-- The amplitude of an entry: the square root of the larger of it and `ε`. (An entry of `⊤` has none; the definition gives 0.) -/
def amp (x : EReal) : ℝ := Real.sqrt (max x (ε : EReal)).toReal

theorem amp_nonneg (x : EReal) : 0 ≤ amp x := Real.sqrt_nonneg _

/-- What the kernel makes of an entry: `y · rsqrt y` for `y` the larger of the entry and `ε`, whatever the entry is. -/
theorem mul_rsqrt (x : EReal) : max x (ε : EReal) * Ideal.rsqrt (max x (ε : EReal)) = (amp x : EReal) := by
  unfold amp
  have hb : (ε : EReal) ≤ max x (ε : EReal) := le_max_right _ _
  generalize max x (ε : EReal) = y at hb
  induction y with
  | bot => exact absurd hb (by simp)
  | top => simp
  | coe r =>
    have hr : 0 < r := ε_pos.trans_le (EReal.coe_le_coe_iff.1 hb)
    rw [Ideal.rsqrt_coe, if_neg (not_lt.2 hr.le), if_neg hr.ne', ← EReal.coe_mul, EReal.toReal_coe]
    congr 1
    nth_rewrite 1 [← Real.mul_self_sqrt hr.le]
    rw [mul_assoc, mul_inv_cancel₀ (Real.sqrt_pos.2 hr).ne', mul_one]

/-- What the reference makes of an entry below `⊤`: the square root of the larger of it and `ε`. -/
theorem sqrt_max {x : EReal} (hx : x < ⊤) : Ideal.sqrt (max x (ε : EReal)) = (amp x : EReal) := by
  unfold amp
  have hb : (ε : EReal) ≤ max x (ε : EReal) := le_max_right _ _
  have ht : max x (ε : EReal) < ⊤ := max_lt hx (EReal.coe_lt_top _)
  generalize max x (ε : EReal) = y at hb ht
  induction y with
  | bot => exact absurd hb (by simp)
  | top => exact absurd ht (by simp)
  | coe r =>
    have hr : 0 < r := ε_pos.trans_le (EReal.coe_le_coe_iff.1 hb)
    rw [Ideal.sqrt_coe, if_neg (not_lt.2 hr.le), EReal.toReal_coe]

/-- The state a row of the spectrum starts from: `10` at row 0 down to `1` at row 512, over `10000`. -/
def start (f : ℕ) : ℝ := 1 / 1000 - 9 / 5120000 * f

theorem start_pos {f : ℕ} (hf : f < 513) : 0 < start f := by
  have : (f : ℝ) ≤ 512 := by exact_mod_cast Nat.le_of_lt_succ hf
  unfold start; linarith

/-- The entries that drive a row: its amplitudes, and 0 after the last. -/
def drive (x : Fin 4000 → EReal) (n : ℕ) : ℝ := if h : n < 4000 then amp (x ⟨n, h⟩) else 0

theorem drive_nonneg (x : Fin 4000 → EReal) (n : ℕ) : 0 ≤ drive x n := by
  unfold drive; split
  · exact amp_nonneg _
  · exact le_rfl

/-- The state of row `f`, whose entries are `x`, after `n` steps. -/
abbrev rowState (f : ℕ) (x : Fin 4000 → EReal) (n : ℕ) : ℝ := state (start f) (drive x) n

theorem rowState_pos {f : ℕ} (hf : f < 513) (x : Fin 4000 → EReal) (n : ℕ) : 0 < rowState f x n :=
  state_pos (start_pos hf) (drive_nonneg x) n

/-- What both programs put at entry `n` of row `f`: the entry over the square root of the state after it. -/
def result (f : ℕ) (x : Fin 4000 → EReal) (n : Fin 4000) : EReal :=
  x n * (((Real.sqrt (rowState f x (n + 1)))⁻¹ : ℝ) : EReal)

/-- The kernel's last operation: the product with the reciprocal square root of a positive state. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- The reference's last operation: the quotient by the square root of a positive state. -/
theorem div_sqrt {r : ℝ} (h : 0 < r) (x : EReal) : Ideal.div x (Ideal.sqrt (r : EReal)) = x * (((Real.sqrt r)⁻¹ : ℝ) : EReal) := by
  rw [Ideal.sqrt_coe, if_neg (not_lt.2 h.le), Ideal.div_coe (Real.sqrt_pos.2 h).ne', one_div]

/-- A sum of reals, read in the extended reals. -/
theorem coe_sum {n : ℕ} (g : Fin n → ℝ) : ((∑ i, g i : ℝ) : EReal) = ∑ i, (g i : EReal) := by
  classical
  induction (Finset.univ : Finset (Fin n)) using Finset.induction with
  | empty => simp
  | insert a s ha ih => rw [Finset.sum_insert ha, Finset.sum_insert ha, EReal.coe_add, ih]

end Cert.Ema

end
-- ==== Proof.Consts.lean ====
/- The single-precision words both programs name, as the real numbers they stand for. -/
module

public import proofs.«01_k».proof.Proof.Ema
public import Idealize.ShloMosaic.Lib.Pointwise

@[expose] public section

noncomputable section

namespace Cert.Ema

open Idealize.ShloMosaic

/-- The word of `0.969`. -/
theorem word_α : Ideal.ofBits .f32 0x3F781062#32 = (α : EReal) := by
  simp [Ideal.ofBits, Ideal.ieee, α, -EReal.coe_mul]; norm_num

/-- The word of `1e-10`. -/
theorem word_ε : Ideal.ofBits .f32 0x2EDBE6FF#32 = (ε : EReal) := by
  simp [Ideal.ofBits, Ideal.ieee, ε, -EReal.coe_mul]; norm_num

/-- The word of `1`. -/
theorem word_one : Ideal.ofBits .f32 0x3F800000#32 = ((1 : ℝ) : EReal) := by
  rw [Ideal.ofBits_one_f32, EReal.coe_one]

/-- The word of `10`. -/
theorem word_ten : Ideal.ofBits .f32 0x41200000#32 = ((10 : ℝ) : EReal) := by
  simp [Ideal.ofBits, Ideal.ieee, -EReal.coe_mul]; norm_num

/-- The word of `512`. -/
theorem word_512 : Ideal.ofBits .f32 0x44000000#32 = ((512 : ℝ) : EReal) := by
  simp [Ideal.ofBits, Ideal.ieee, -EReal.coe_mul]; norm_num

/-- The word of `10000`. -/
theorem word_10000 : Ideal.ofBits .f32 0x461C4000#32 = ((10000 : ℝ) : EReal) := by
  simp [Ideal.ofBits, Ideal.ieee, -EReal.coe_mul]; norm_num

/-- The word of `255`. -/
theorem word_255 : Ideal.ofBits .f32 0x437F0000#32 = ((255 : ℝ) : EReal) := by
  simp [Ideal.ofBits, Ideal.ieee, -EReal.coe_mul]; norm_num

/-- The word of infinity. -/
theorem word_top : Ideal.ofBits .f32 0x7F800000#32 = (⊤ : EReal) := by
  simp [Ideal.ofBits, Ideal.ieee]

/-- A 32-bit word made of a number below `2 ^ 31`, read as a signed integer, is that number. -/
theorem toInt_ofNat {n : ℕ} (h : n < 2147483648) : (BitVec.ofNat 32 n).toInt = n := by
  rw [BitVec.toInt_eq_toNat_of_lt (by simp; omega)]; simp; omega

end Cert.Ema

end
-- ==== Proof.Tables.lean ====
/- The two tables that the program computes before the kernel: the weights of a chunk's inputs, and the powers by which the carried state
   decays. -/
module

public import proofs.«01_k».proof.Proof.Consts
public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Run

open Idealize.ShloMosaic Cert.KernelIdeal Cert.KernelIdeal.Gen Cert.Ema

variable (m : (ℓ : Loc nD τ sig) → Buf (Elt Ideal) ℓ)

/-- A place of an axis of 256, made a float, is the number it counts. -/
theorem count_eq (p : Fin 256) : (FloatOps.sitofp (F := Ideal) FTy.f32 (BitVec.ofNat 32 p.val) : EReal) = ((p.val : ℝ) : EReal) := by
  show (((BitVec.ofNat 32 p.val).toInt : ℝ) : EReal) = _
  rw [toInt_ofNat (by omega), Int.cast_natCast]

/-- A power of the old state's weight, the exponent a counted number. -/
theorem pow_eq (n : ℕ) : Ideal.pow (α : EReal) ((n : ℝ) : EReal) = ((α ^ n : ℝ) : EReal) :=
  congrArg (fun r : ℝ => (r : EReal)) (Real.rpow_natCast α n)

/-- The table of weights holds at `(p, q)` the weight of input `p` of a chunk in the state after its step `q`. -/
theorem weights_eq (c : Dev nD) (p q : Fin 256) :
    (V m c main_call0_v26 : Vec Ideal S256x256 .bf16) (ix2 p q) = ((weight p q : ℝ) : EReal) := by
  unfold V
  after_reads_at
  rw [count_eq, count_eq, word_α, ← EReal.coe_sub, weight]
  by_cases h : p.val ≤ q.val
  · have hc : ((q.val : ℝ) - (p.val : ℝ)) = ((q.val - p.val : ℕ) : ℝ) := (Nat.cast_sub h).symm
    have h0 : (0 : EReal) ≤ (((q.val - p.val : ℕ) : ℝ) : EReal) := EReal.coe_nonneg.2 (Nat.cast_nonneg _)
    rw [if_pos h, hc, if_pos h0, max_eq_left h0, pow_eq, ← EReal.coe_one, ← EReal.coe_sub, ← EReal.coe_mul]
  · have hc : ((q.val : ℝ) - (p.val : ℝ)) < 0 := sub_neg.2 (Nat.cast_lt.2 (not_le.1 h))
    rw [if_neg h, if_neg (not_le.2 (EReal.coe_neg'.2 hc))]
    exact Ideal.ofBits_zero_f32

/-- The table of powers holds zero outside its last row, and there the powers of the decay. -/
theorem powers_eq (c : Dev nD) (p q : Fin 256) :
    (V m c main_call0_v27 : Vec Ideal S256x256 .bf16) (ix2 p q) = if p.val = 255 then ((α ^ (q.val + 1) : ℝ) : EReal) else 0 := by
  unfold V
  after_reads_at
  rw [count_eq, count_eq, word_α, word_255, ← EReal.coe_one, ← EReal.coe_add, ← Nat.cast_succ, pow_eq]
  refine if_congr ?_ rfl Ideal.ofBits_zero_f32
  rw [EReal.coe_eq_coe_iff]
  exact ⟨fun h => Nat.cast_injective (R := ℝ) (h.trans (by norm_num)), fun h => by rw [h]; norm_num⟩

end Cert.KernelIdeal.Run

end
-- ==== Proof.Chunk.lean ====
/- What the body computes for one chunk of 256 columns of one row block: the states after each column from the state carried in, what it
   carries on, and what it puts out. The body is printed with this chain sixteen times over; here it stands once. -/
module

public import proofs.«01_k».proof.Proof.Consts
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Run

open Idealize.ShloMosaic Cert.KernelIdeal Cert.KernelIdeal.Gen Cert.Ema

section Ops

variable {F : FTy → Type} [FloatOps F]

/-- The chunk's amplitudes: `y · rsqrt y` for `y` the larger of the entry and the floor, 0 outside the array. -/
def amps (mask : IVec S513x256 1) (x : Vec F S1x513x256 .f32) : FVec F S513x256 .bf16 :=
  truncf .bf16 (select mask
    (mulf (maximumf (shapeCast S513x256 x shapeCasts_S1x513x256_S513x256) (broadcast S513x256 (Scalar.ofBits .f32 0x2EDBE6FF#32)))
      (rsqrt (maximumf (shapeCast S513x256 x shapeCasts_S1x513x256_S513x256) (broadcast S513x256 (Scalar.ofBits .f32 0x2EDBE6FF#32)))))
    (broadcast S513x256 (Scalar.ofBits .f32 0x00000000#32))) bitsLt_bf16_f32

/-- The chunk's new states: the amplitudes times the weights, plus the carried state times its powers. -/
def states (mask : IVec S513x256 1) (u v : FVec F S256x256 .bf16) (x : Vec F S1x513x256 .f32) (s : Vec F S1x513x256 .bf16) :
    FVec F S513x256 .f32 :=
  addf (matmul dot_S513x256_S256x256_S513x256_1_0_0_1_n_n none (amps mask x) u (constant S513x256 .f32 0x00000000#32))
    (matmul dot_S513x256_S256x256_S513x256_1_0_0_1_n_n none (shapeCast S513x256 s shapeCasts_S1x513x256_S513x256) v
      (constant S513x256 .f32 0x00000000#32))

/-- What a chunk carries on: its new states. -/
def carried (n : FVec F S513x256 .f32) : FVec F S1x513x256 .bf16 :=
  shapeCast S1x513x256 (truncf .bf16 n bitsLt_bf16_f32) shapeCasts_S513x256_S1x513x256

/-- What a chunk puts out: its entries times the reciprocal square roots of the new states. -/
def scaled (x : Vec F S1x513x256 .f32) (n : FVec F S513x256 .f32) : FVec F S1x513x256 .f32 :=
  shapeCast S1x513x256 (mulf (shapeCast S513x256 x shapeCasts_S1x513x256_S513x256) (rsqrt n)) shapeCasts_S513x256_S1x513x256

end Ops

/-- Which columns of the chunk at column `o` of its block lie inside the array. -/
def inside (i : grid0.Coords) (o : BitVec 32) : IVec S513x256 1 :=
  cmpi .slt (addi (broadcast S513x256 (Scalar.addi (Scalar.muli (BitVec.ofNat 32 (i 1).val) 2048#32) o))
    (iota .tc S513x256 32 [1] iota_S513x256_d1_w32)) (broadcast S513x256 4000#32)

/-- Column `j` of the chunk at column `o` lies inside the array when its place in the row is below 4000. -/
theorem inside_at (i : grid0.Coords) (o : ℕ) (ho : o < 2048) (f : Fin 513) (j : Fin 256) :
    inside i (BitVec.ofNat 32 o) (ix2 f j) = 1#1 ↔ 2048 * (i 1).val + o + j.val < 4000 := by
  have hi : (i 1).val < 2 := (i 1).isLt
  generalize hk : (i 1).val = k at hi
  unfold inside
  pointwise
  rw [hk]
  have hw : IntOp.addi (Scalar.addi (Scalar.muli (BitVec.ofNat 32 k) 2048#32) (BitVec.ofNat 32 o)) (BitVec.ofNat 32 j.val)
      = BitVec.ofNat 32 (2048 * k + o + j.val) := by
    show BitVec.ofNat 32 k * BitVec.ofNat 32 2048 + BitVec.ofNat 32 o + BitVec.ofNat 32 j.val = _
    rw [← BitVec.ofNat_mul, ← BitVec.ofNat_add, ← BitVec.ofNat_add, Nat.mul_comm]
  rw [hw]
  show BitVec.ofBool (decide _) = 1#1 ↔ _
  rw [toInt_ofNat (by omega), show (4000#32 : BitVec 32).toInt = 4000 from rfl]
  by_cases h : 2048 * k + o + j.val < 4000
  · have : ((2048 * k + o + j.val : ℕ) : ℤ) < 4000 := by omega
    simp only [decide_eq_true this, h, iff_true]; rfl
  · have : ¬((2048 * k + o + j.val : ℕ) : ℤ) < 4000 := by omega
    simp only [decide_eq_false this, h, iff_false]; decide

/-- One column of the chunk: the state after it, from the state carried in at the last column of `s`. -/
theorem states_at (mask : IVec S513x256 1) (u v : FVec Ideal S256x256 .bf16) (x : Vec Ideal S1x513x256 .f32) (s : Vec Ideal S1x513x256 .bf16)
    (hu : ∀ p q : Fin 256, u (ix2 p q) = ((weight p q : ℝ) : EReal))
    (hv : ∀ p q : Fin 256, v (ix2 p q) = if p.val = 255 then ((α ^ (q.val + 1) : ℝ) : EReal) else 0)
    (s0 : ℝ) (a : ℕ → ℝ) (n : ℕ) (f : Fin 513)
    (hx : ∀ j : Fin 256, mask (ix2 f j) = 1#1 → amp (x (ix3 0 f j)) = a (n + j))
    (hz : ∀ j : Fin 256, mask (ix2 f j) ≠ 1#1 → a (n + j) = 0)
    (hs : s (ix3 0 f 255) = ((state s0 a n : ℝ) : EReal)) (j : Fin 256) :
    states mask u v x s (ix2 f j) = ((state s0 a (n + j + 1) : ℝ) : EReal) := by
  have ha : ∀ k : Fin 256, amps mask x (ix2 f k) = ((a (n + k) : ℝ) : EReal) := by
    intro k
    pointwise [amps]
    rw [word_ε, mul_rsqrt]
    by_cases h : mask (ix2 f k) = 1#1
    · rw [h, hx k h]; rfl
    · rw [hz k h]
      exact if_neg h
  unfold states
  pointwise
  have h1 : ∀ k : Fin 256, (amps mask x (ix2 f k) * u (ix2 k j) : EReal) = ((a (n + k) * weight k j : ℝ) : EReal) := by
    intro k
    rw [ha k, hu k j, EReal.coe_mul]
  have h2 : ∀ k : Fin 256, k ≠ 255 → (s (ix3 0 f k) * v (ix2 k j) : EReal) = 0 := by
    intro k hk
    rw [hv k j, if_neg (show ¬k.val = 255 from fun h => hk (Fin.ext h)), mul_zero]
  rw [Finset.sum_congr rfl (fun k _ => h1 k), Finset.sum_eq_single (255 : Fin 256) (fun k _ hk => h2 k hk) (fun h => absurd (Finset.mem_univ _) h),
    hs, hv 255 j, if_pos (show ((255 : Fin 256) : ℕ) = 255 from rfl), ← coe_sum, ← EReal.coe_mul, ← EReal.coe_add, state_chunk s0 a n j.val j.isLt]

/-- What a chunk carries on at its last column. -/
theorem carried_at (n : FVec Ideal S513x256 .f32) (f : Fin 513) (j : Fin 256) : carried n (ix3 0 f j) = n (ix2 f j) := by
  unfold carried
  pointwise

/-- What a chunk puts out at a column whose state is positive. -/
theorem scaled_at (x : Vec Ideal S1x513x256 .f32) (n : FVec Ideal S513x256 .f32) (f : Fin 513) (j : Fin 256) (r : ℝ) (hr : 0 < r)
    (hn : n (ix2 f j) = (r : EReal)) : scaled x n (ix3 0 f j) = (x (ix3 0 f j) * (((√r)⁻¹ : ℝ) : EReal) : EReal) := by
  unfold scaled
  pointwise
  rw [hn, rsqrt_pos hr]

end Cert.KernelIdeal.Run

end
-- ==== Proof.KernelRun.lean ====
/- What one run of the kernel's body stores: the pieces it writes into the output block and into the scratch, from the contents of
   its inputs. At the first time block of a row block it first sets the scratch; at the second it finds what the first left. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The body's one test: the point is the first time block of its row block. -/
abbrev First (i : grid0.Coords) : Prop := (Scalar.cmpi .ne (Scalar.extui (Scalar.cmpi .eq (BitVec.ofNat 32 (i 1).val) 0#32)) 0#32) = 1#1

/-- The even points of the grid are the first time blocks. -/
theorem first_iff (t : Fin cfg0.N) : First (grid0.coords t) ↔ t.val % 2 = 0 := by
  have ht : t.val < 32 := Nat.lt_of_lt_of_eq t.isLt N_0
  have e1 : (grid0.coords t 1).val = t.val / 1 % 2 := Pipeline.Grid.coords_val t 1 (by decide) rfl
  simp only [First, e1]
  word_cmp

set_option maxHeartbeats 4000000 in
/-- The run at a first time block: the scratch may hold anything. The pieces stored into the output block and into the scratch, with the
    proof that the body runs from its operands, gives the inputs back and leaves the two buffers with those pieces written. -/
def runFirst (c : Dev nD) (i : grid0.Coords)
    (arg2 : Memref sig .tc .vmem S2x513x2048 .f32) (harg2 : arg2.IsWhole) (arg3 : Memref sig .tc .vmem S256x256 .bf16) (harg3 : arg3.IsWhole)
    (arg4 : Memref sig .tc .vmem S256x256 .bf16) (harg4 : arg4.IsWhole) (arg5 : Memref sig .tc .vmem S2x513x2048 .f32) (harg5 : arg5.IsWhole)
    (arg6 : Memref sig .tc .vmem S2x513x256 .bf16) (harg6 : arg6.IsWhole) (hc : First i)
    (x : Vec F S2x513x2048 .f32) (u v : Vec F S256x256 .bf16) :
    Σ' (LO : List (View.Piece (Elt F) S2x513x2048 .f32)), { LS : List (View.Piece (Elt F) S2x513x256 .bf16) //
      ∀ (E : Set ℕ) (K : PUnit → sProp 𝕄),
        iprop(owns (c : Thread nD τ) arg2 fullShare x ∗ owns (c : Thread nD τ) arg3 fullShare u ∗ owns (c : Thread nD τ) arg4 fullShare v
            ∗ (∃ d, owns (c : Thread nD τ) arg5 fullShare d) ∗ (∃ d, owns (c : Thread nD τ) arg6 fullShare d)
            ∗ (iprop(owns (c : Thread nD τ) arg2 fullShare x ∗ owns (c : Thread nD τ) arg3 fullShare u ∗ owns (c : Thread nD τ) arg4 fullShare v
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg2 harg2 arg3 harg3 arg4 harg4 arg5 harg5 arg6 harg6) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 4000000 in
/-- The run at a second time block: the scratch holds `xs`. The pieces stored into the output block and into the scratch, with the
    proof that the body runs from its operands, gives the inputs back and leaves the two buffers with those pieces written. -/
def runSecond (c : Dev nD) (i : grid0.Coords)
    (arg2 : Memref sig .tc .vmem S2x513x2048 .f32) (harg2 : arg2.IsWhole) (arg3 : Memref sig .tc .vmem S256x256 .bf16) (harg3 : arg3.IsWhole)
    (arg4 : Memref sig .tc .vmem S256x256 .bf16) (harg4 : arg4.IsWhole) (arg5 : Memref sig .tc .vmem S2x513x2048 .f32) (harg5 : arg5.IsWhole)
    (arg6 : Memref sig .tc .vmem S2x513x256 .bf16) (harg6 : arg6.IsWhole) (hc : ¬First i)
    (x : Vec F S2x513x2048 .f32) (u v : Vec F S256x256 .bf16) (xs : Vec F S2x513x256 .bf16) :
    Σ' (LO : List (View.Piece (Elt F) S2x513x2048 .f32)), { LS : List (View.Piece (Elt F) S2x513x256 .bf16) //
      ∀ (E : Set ℕ) (K : PUnit → sProp 𝕄),
        iprop(owns (c : Thread nD τ) arg2 fullShare x ∗ owns (c : Thread nD τ) arg3 fullShare u ∗ owns (c : Thread nD τ) arg4 fullShare v
            ∗ (∃ d, owns (c : Thread nD τ) arg5 fullShare d) ∗ owns (c : Thread nD τ) arg6 fullShare xs
            ∗ (iprop(owns (c : Thread nD τ) arg2 fullShare x ∗ owns (c : Thread nD τ) arg3 fullShare u ∗ owns (c : Thread nD τ) arg4 fullShare v
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg2 harg2 arg3 harg3 arg4 harg4 arg5 harg5 arg6 harg6) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Run

end
-- ==== Proof.Block.lean ====
/- What one run of the body does to a block, chunk by chunk: from a row block's entries, its amplitudes and the states carried into a
   chunk to the states carried out of it and to what the chunk stores. -/
module

public import proofs.«01_k».proof.Proof.Chunk
public import proofs.«01_k».proof.Proof.KernelRun
public import Idealize.ShloMosaic.Lib.WholeRead
public import Idealize.ShloMosaic.Lib.Ring
public import Idealize.ShloMosaic.Lib.Tactic
public import Idealize.ShloMosaic.Lib.Writes
public import Idealize.ShloMosaic.Lib.Pipeline.ReadBack
public import Idealize.ShloMosaic.Lib.Pipeline.ValueKit.Geometry

@[expose] public section

set_option maxRecDepth 16384

noncomputable section

namespace Cert.KernelIdeal.Run

open Idealize.ShloMosaic Cert.KernelIdeal Cert.KernelIdeal.Gen Cert.Ema

/-- The entries that a chunk loads: row block `g` of the block, 256 columns from column `o`. -/
abbrev load (arg2 : Memref sig .tc .vmem S2x513x2048 .f32) (harg2 : arg2.IsWhole) (x : Vec Ideal S2x513x2048 .f32) (g o : ℕ)
    (inb : ∀ a : Fin 3, ![g, 0, o] a + S1x513x256.size a ≤ S2x513x2048.size a) : Vec Ideal S1x513x256 .f32 :=
  View.readAt (Elt Ideal) arg2.view (Rect.unit (s := S2x513x2048) ![g, 0, o] S1x513x256.size inb).toLoadRect (harg2.unread x)

/-- The state of row `f` of part `g` before column `n`. -/
def stateOf (a : Fin 2 → Fin 513 → ℕ → ℝ) (g : Fin 2) (f : Fin 513) (n : ℕ) : ℝ := state (start f.val) (a g f) n

/-- What a run is given: the two tables, the block's amplitudes at its columns inside the array, and amplitude 0 past the array. -/
structure Env (i : grid0.Coords) (x : Vec Ideal S2x513x2048 .f32) (u v : FVec Ideal S256x256 .bf16) (a : Fin 2 → Fin 513 → ℕ → ℝ) : Prop where
  weights : ∀ p q : Fin 256, u (ix2 p q) = ((weight p q : ℝ) : EReal)
  powers : ∀ p q : Fin 256, v (ix2 p q) = if p.val = 255 then ((α ^ (q.val + 1) : ℝ) : EReal) else 0
  inner : ∀ (g : Fin 2) (f : Fin 513) (j : Fin 2048), 2048 * (i 1).val + j.val < 4000 → amp (x (ix3 g f j)) = a g f (2048 * (i 1).val + j.val)
  outer : ∀ (g : Fin 2) (f : Fin 513) (n : ℕ), 4000 ≤ n → a g f n = 0
  nonneg : ∀ (g : Fin 2) (f : Fin 513) (n : ℕ), 0 ≤ a g f n

/-- The scratch of part `g` holds, in its last column, the states before chunk `k` of the block. -/
def Holds (i : grid0.Coords) (a : Fin 2 → Fin 513 → ℕ → ℝ) (g : Fin 2) (k : ℕ) (s : Vec Ideal S1x513x256 .bf16) : Prop :=
  ∀ f : Fin 513, s (ix3 0 f 255) = ((stateOf a g f (2048 * (i 1).val + 256 * k) : ℝ) : EReal)

/-- What the run leaves in the output block: each entry times the reciprocal square root of the state after its column. -/
def outOf (i : grid0.Coords) (a : Fin 2 → Fin 513 → ℕ → ℝ) (x : Vec Ideal S2x513x2048 .f32) : Vec Ideal S2x513x2048 .f32 := fun y =>
  (x y * (((√(stateOf a (y 0) (y 1) (2048 * (i 1).val + (y 2).val + 1)))⁻¹ : ℝ) : EReal) : EReal)

/-- A rectangle of one part of a block places its entry `(0, f, j)` at row `f`, `j` columns past its first. -/
theorem place (n : ℕ) (g : Fin 2) (o : ℕ) (inb : ∀ a : Fin 3, ![g.val, 0, o] a + S1x513x256.size a ≤ (⟨3, ![2, 513, n]⟩ : Shape).size a)
    (f : Fin 513) (j : Fin 256) (hj : o + j.val < n) :
    (Rect.unit (s := ⟨3, ![2, 513, n]⟩) ![g.val, 0, o] S1x513x256.size inb).emb (ix3 0 f j) = ix3 g f ⟨o + j.val, hj⟩ := by
  funext a
  refine Fin.ext ((ValueKit.rect_emb_unit_val _ _ inb _ a).trans ?_)
  match a with
  | ⟨0, _⟩ => exact Nat.add_zero _
  | ⟨1, _⟩ => exact Nat.zero_add _
  | ⟨2, _⟩ => rfl

/-- A load reads the block where the rectangle places it. -/
theorem load_at (arg2 : Memref sig .tc .vmem S2x513x2048 .f32) (harg2 : arg2.IsWhole) (x : Vec Ideal S2x513x2048 .f32) (g : Fin 2) (o : ℕ)
    (inb : ∀ a : Fin 3, ![g.val, 0, o] a + S1x513x256.size a ≤ S2x513x2048.size a) (f : Fin 513) (j : Fin 256) (hj : o + j.val < 2048) :
    load arg2 harg2 x g.val o inb (ix3 0 f j) = x (ix3 g f ⟨o + j.val, hj⟩) :=
  (harg2.readAt_unread x _ _).trans (congrArg x (place 2048 g o inb f j hj))

section Steps

variable {i : grid0.Coords} {x : Vec Ideal S2x513x2048 .f32} {u v : FVec Ideal S256x256 .bf16} {a : Fin 2 → Fin 513 → ℕ → ℝ}

theorem stateOf_pos (h : Env i x u v a) (g : Fin 2) (f : Fin 513) (n : ℕ) : 0 < stateOf a g f n :=
  state_pos (start_pos f.isLt) (h.nonneg g f) n

variable (arg2 : Memref sig .tc .vmem S2x513x2048 .f32) (harg2 : arg2.IsWhole)

/-- The states of chunk `k`, from the states before it. -/
theorem Env.states_eq (h : Env i x u v a) (g : Fin 2) (k : ℕ) (hk : k < 8)
    (inb : ∀ b : Fin 3, ![g.val, 0, 256 * k] b + S1x513x256.size b ≤ S2x513x2048.size b) {s : Vec Ideal S1x513x256 .bf16}
    (hs : Holds i a g k s) (f : Fin 513) (j : Fin 256) :
    states (inside i (BitVec.ofNat 32 (256 * k))) u v (load arg2 harg2 x g.val (256 * k) inb) s (ix2 f j)
      = ((stateOf a g f (2048 * (i 1).val + 256 * k + j.val + 1) : ℝ) : EReal) := by
  refine states_at _ u v _ s h.weights h.powers _ (a g f) _ f (fun q hq => ?_) (fun q hq => ?_) (hs f) j
  · have h' := (inside_at i (256 * k) (by omega) f q).1 hq
    rw [load_at arg2 harg2 x g (256 * k) inb f q (by omega), h.inner g f ⟨256 * k + q.val, by omega⟩ (by show _ + (_ + _) < _; omega)]
    exact congrArg (a g f) (Nat.add_assoc _ _ _).symm
  · have h' : ¬(2048 * (i 1).val + 256 * k + q.val < 4000) := fun h => hq ((inside_at i (256 * k) (by omega) f q).2 h)
    exact h.outer g f _ (by omega)

/-- What chunk `k` carries on is the states before the next chunk. -/
theorem Env.next (h : Env i x u v a) (g : Fin 2) (k : ℕ) (hk : k < 8)
    (inb : ∀ b : Fin 3, ![g.val, 0, 256 * k] b + S1x513x256.size b ≤ S2x513x2048.size b) {s : Vec Ideal S1x513x256 .bf16}
    (hs : Holds i a g k s) :
    Holds i a g (k + 1) (carried (states (inside i (BitVec.ofNat 32 (256 * k))) u v (load arg2 harg2 x g.val (256 * k) inb) s)) := fun f =>
  (carried_at _ f 255).trans ((h.states_eq arg2 harg2 g k hk inb hs f 255).trans (by
    rw [show 2048 * (i 1).val + 256 * k + (255 : Fin 256).val + 1 = 2048 * (i 1).val + 256 * (k + 1) from by
      show 2048 * (i 1).val + 256 * k + 255 + 1 = _; omega]))

/-- What chunk `k` stores is its part of the output block. -/
theorem Env.out (h : Env i x u v a) (g : Fin 2) (k : ℕ) (hk : k < 8)
    (inb : ∀ b : Fin 3, ![g.val, 0, 256 * k] b + S1x513x256.size b ≤ S2x513x2048.size b) {s : Vec Ideal S1x513x256 .bf16}
    (hs : Holds i a g k s) (z : S1x513x256.Idx) :
    scaled (load arg2 harg2 x g.val (256 * k) inb)
        (states (inside i (BitVec.ofNat 32 (256 * k))) u v (load arg2 harg2 x g.val (256 * k) inb) s) z
      = outOf i a x ((Rect.unit (s := S2x513x2048) ![g.val, 0, 256 * k] S1x513x256.size inb).emb z) := by
  idx_vars z
  rename' z1 => f, z2 => j
  obtain rfl : z0 = 0 := Subsingleton.elim _ _
  have hj : 256 * k + j.val < 2048 := by omega
  rw [scaled_at _ _ f j _ (stateOf_pos h g f _) (h.states_eq arg2 harg2 g k hk inb hs f j), load_at arg2 harg2 x g _ inb f j hj,
    place 2048 g _ inb f j hj]
  show _ = (x _ * (((√(stateOf a g f (2048 * (i 1).val + (256 * k + j.val) + 1)))⁻¹ : ℝ) : EReal) : EReal)
  rw [Nat.add_assoc (2048 * (i 1).val)]

end Steps

/-- The scratch loaded after two stores, the newest of the other part, reads the older of the two. -/
theorem load_second {F : FTy → Type} [FloatOps F] (w : View sig .tc .vmem S2x513x256 .bf16) (r r' : Rect S2x513x256)
    (d : r.shape.Idx → Elt F .bf16) (d' : r'.shape.Idx → Elt F .bf16) (L : List (View.Piece (Elt F) S2x513x256 .bf16))
    (hd : LoadRect.disj r r'.toLoadRect = true) : w.readCov (⟨r, d⟩ :: ⟨r', d'⟩ :: L) r'.toLoadRect = d' :=
  (View.readCov_skip w r d _ _ hd).trans (View.readCov_cons_toLoadRect w r' d' L)

/-- The scratch after a run whose two newest stores carry the states before chunk `k`, one store per part. -/
theorem left_at (w : View sig .tc .vmem S2x513x256 .bf16) (fs : w.ty.Contents (Elt Ideal)) (i : grid0.Coords) (a : Fin 2 → Fin 513 → ℕ → ℝ)
    (k : ℕ) (d0 d1 : Vec Ideal S1x513x256 .bf16) (L : List (View.Piece (Elt Ideal) S2x513x256 .bf16)) (h0 : Holds i a 0 k d0) (h1 : Holds i a 1 k d1)
    (g : Fin 2) (f : Fin 513) :
    w.read (Elt Ideal) (w.writes (Elt Ideal) fs (⟨Rect.unit ![1, 0, 0] S1x513x256.size inb_S2x513x256_S1x513x256_1_0_0, d1⟩
        :: ⟨Rect.unit ![0, 0, 0] S1x513x256.size inb_S2x513x256_S1x513x256_0_0_0, d0⟩ :: L)) (ix3 g f 255)
      = ((stateOf a g f (2048 * (i 1).val + 256 * k) : ℝ) : EReal) := by
  match g with
  | ⟨0, _⟩ =>
    refine (View.read_writes_cons_miss_of_axis w fs _ _ _ 0 1 1 rfl rfl rfl (Or.inl Nat.zero_lt_one)).trans ?_
    refine Eq.trans ?_ (h0 f)
    rw [← View.read_writes_cons_emb w fs (Rect.unit ![0, 0, 0] S1x513x256.size inb_S2x513x256_S1x513x256_0_0_0) d0 L (ix3 0 f 255)]
    exact congrArg _ (place 256 0 0 inb_S2x513x256_S1x513x256_0_0_0 f 255 (by decide)).symm
  | ⟨1, _⟩ =>
    refine Eq.trans ?_ (h1 f)
    rw [← View.read_writes_cons_emb w fs (Rect.unit ![1, 0, 0] S1x513x256.size inb_S2x513x256_S1x513x256_1_0_0) d1 _ (ix3 0 f 255)]
    exact congrArg _ (place 256 1 0 inb_S2x513x256_S1x513x256_1_0_0 f 255 (by decide)).symm

/-- A table loaded whole and reshaped to its own shape is the table. -/
theorem table_at (t : Vec Ideal S256x256 .bf16) (arg3 : Memref sig .tc .vmem S256x256 .bf16) (harg3 : arg3.IsWhole) (p q : Fin 256) :
    shapeCast S256x256 (View.readAt (Elt Ideal) arg3.view (Rect.unit ![0, 0] S256x256.size inb_S256x256_S256x256_0_0).toLoadRect (harg3.unread t))
      shapeCasts_S256x256_S256x256 (ix2 p q) = t (ix2 p q) := by
  pointwise
  refine Eq.trans (b := t ((Rect.unit (s := S256x256) ![0, 0] S256x256.size inb_S256x256_S256x256_0_0).emb (ix2 p q)))
    (harg3.readAt_unread t _ _) (congrArg t ?_)
  funext a
  refine Fin.ext ((ValueKit.rect_emb_unit_val _ _ inb_S256x256_S256x256_0_0 _ a).trans ?_)
  match a with
  | ⟨0, _⟩ => exact Nat.zero_add _
  | ⟨1, _⟩ => exact Nat.zero_add _

/-- What a run is given, its tables as the body loads them. -/
theorem Env.loaded {i : grid0.Coords} {x : Vec Ideal S2x513x2048 .f32} {u v u' v' : FVec Ideal S256x256 .bf16} {a : Fin 2 → Fin 513 → ℕ → ℝ}
    (h : Env i x u v a) (hu : ∀ p q : Fin 256, u' (ix2 p q) = u (ix2 p q)) (hv : ∀ p q : Fin 256, v' (ix2 p q) = v (ix2 p q)) : Env i x u' v' a :=
  ⟨fun p q => (hu p q).trans (h.weights p q), fun p q => (hv p q).trans (h.powers p q), h.inner, h.outer, h.nonneg⟩

/-- The sixteen pieces that a run stores into the output block, newest first, from the sixteen loads of the scratch: part 0 then part 1 of
    each chunk. -/
def outPieces (i : grid0.Coords) (x : Vec Ideal S2x513x2048 .f32) (u v : FVec Ideal S256x256 .bf16) (arg2 : Memref sig .tc .vmem S2x513x2048 .f32)
    (harg2 : arg2.IsWhole) (s0 s1 s2 s3 s4 s5 s6 s7 s8 s9 s10 s11 s12 s13 s14 s15 : Vec Ideal S1x513x256 .bf16) : List (View.Piece (Elt Ideal) S2x513x2048 .f32) :=
  [⟨Rect.unit ![1, 0, 1792] S1x513x256.size inb_S2x513x2048_S1x513x256_1_0_1792, scaled (load arg2 harg2 x 1 1792 inb_S2x513x2048_S1x513x256_1_0_1792) (states (inside i 1792#32) u v (load arg2 harg2 x 1 1792 inb_S2x513x2048_S1x513x256_1_0_1792) s15)⟩,
    ⟨Rect.unit ![0, 0, 1792] S1x513x256.size inb_S2x513x2048_S1x513x256_0_0_1792, scaled (load arg2 harg2 x 0 1792 inb_S2x513x2048_S1x513x256_0_0_1792) (states (inside i 1792#32) u v (load arg2 harg2 x 0 1792 inb_S2x513x2048_S1x513x256_0_0_1792) s14)⟩,
    ⟨Rect.unit ![1, 0, 1536] S1x513x256.size inb_S2x513x2048_S1x513x256_1_0_1536, scaled (load arg2 harg2 x 1 1536 inb_S2x513x2048_S1x513x256_1_0_1536) (states (inside i 1536#32) u v (load arg2 harg2 x 1 1536 inb_S2x513x2048_S1x513x256_1_0_1536) s13)⟩,
    ⟨Rect.unit ![0, 0, 1536] S1x513x256.size inb_S2x513x2048_S1x513x256_0_0_1536, scaled (load arg2 harg2 x 0 1536 inb_S2x513x2048_S1x513x256_0_0_1536) (states (inside i 1536#32) u v (load arg2 harg2 x 0 1536 inb_S2x513x2048_S1x513x256_0_0_1536) s12)⟩,
    ⟨Rect.unit ![1, 0, 1280] S1x513x256.size inb_S2x513x2048_S1x513x256_1_0_1280, scaled (load arg2 harg2 x 1 1280 inb_S2x513x2048_S1x513x256_1_0_1280) (states (inside i 1280#32) u v (load arg2 harg2 x 1 1280 inb_S2x513x2048_S1x513x256_1_0_1280) s11)⟩,
    ⟨Rect.unit ![0, 0, 1280] S1x513x256.size inb_S2x513x2048_S1x513x256_0_0_1280, scaled (load arg2 harg2 x 0 1280 inb_S2x513x2048_S1x513x256_0_0_1280) (states (inside i 1280#32) u v (load arg2 harg2 x 0 1280 inb_S2x513x2048_S1x513x256_0_0_1280) s10)⟩,
    ⟨Rect.unit ![1, 0, 1024] S1x513x256.size inb_S2x513x2048_S1x513x256_1_0_1024, scaled (load arg2 harg2 x 1 1024 inb_S2x513x2048_S1x513x256_1_0_1024) (states (inside i 1024#32) u v (load arg2 harg2 x 1 1024 inb_S2x513x2048_S1x513x256_1_0_1024) s9)⟩,
    ⟨Rect.unit ![0, 0, 1024] S1x513x256.size inb_S2x513x2048_S1x513x256_0_0_1024, scaled (load arg2 harg2 x 0 1024 inb_S2x513x2048_S1x513x256_0_0_1024) (states (inside i 1024#32) u v (load arg2 harg2 x 0 1024 inb_S2x513x2048_S1x513x256_0_0_1024) s8)⟩,
    ⟨Rect.unit ![1, 0, 768] S1x513x256.size inb_S2x513x2048_S1x513x256_1_0_768, scaled (load arg2 harg2 x 1 768 inb_S2x513x2048_S1x513x256_1_0_768) (states (inside i 768#32) u v (load arg2 harg2 x 1 768 inb_S2x513x2048_S1x513x256_1_0_768) s7)⟩,
    ⟨Rect.unit ![0, 0, 768] S1x513x256.size inb_S2x513x2048_S1x513x256_0_0_768, scaled (load arg2 harg2 x 0 768 inb_S2x513x2048_S1x513x256_0_0_768) (states (inside i 768#32) u v (load arg2 harg2 x 0 768 inb_S2x513x2048_S1x513x256_0_0_768) s6)⟩,
    ⟨Rect.unit ![1, 0, 512] S1x513x256.size inb_S2x513x2048_S1x513x256_1_0_512, scaled (load arg2 harg2 x 1 512 inb_S2x513x2048_S1x513x256_1_0_512) (states (inside i 512#32) u v (load arg2 harg2 x 1 512 inb_S2x513x2048_S1x513x256_1_0_512) s5)⟩,
    ⟨Rect.unit ![0, 0, 512] S1x513x256.size inb_S2x513x2048_S1x513x256_0_0_512, scaled (load arg2 harg2 x 0 512 inb_S2x513x2048_S1x513x256_0_0_512) (states (inside i 512#32) u v (load arg2 harg2 x 0 512 inb_S2x513x2048_S1x513x256_0_0_512) s4)⟩,
    ⟨Rect.unit ![1, 0, 256] S1x513x256.size inb_S2x513x2048_S1x513x256_1_0_256, scaled (load arg2 harg2 x 1 256 inb_S2x513x2048_S1x513x256_1_0_256) (states (inside i 256#32) u v (load arg2 harg2 x 1 256 inb_S2x513x2048_S1x513x256_1_0_256) s3)⟩,
    ⟨Rect.unit ![0, 0, 256] S1x513x256.size inb_S2x513x2048_S1x513x256_0_0_256, scaled (load arg2 harg2 x 0 256 inb_S2x513x2048_S1x513x256_0_0_256) (states (inside i 256#32) u v (load arg2 harg2 x 0 256 inb_S2x513x2048_S1x513x256_0_0_256) s2)⟩,
    ⟨Rect.unit ![1, 0, 0] S1x513x256.size inb_S2x513x2048_S1x513x256_1_0_0, scaled (load arg2 harg2 x 1 0 inb_S2x513x2048_S1x513x256_1_0_0) (states (inside i 0#32) u v (load arg2 harg2 x 1 0 inb_S2x513x2048_S1x513x256_1_0_0) s1)⟩,
    ⟨Rect.unit ![0, 0, 0] S1x513x256.size inb_S2x513x2048_S1x513x256_0_0_0, scaled (load arg2 harg2 x 0 0 inb_S2x513x2048_S1x513x256_0_0_0) (states (inside i 0#32) u v (load arg2 harg2 x 0 0 inb_S2x513x2048_S1x513x256_0_0_0) s0)⟩]

/-- Each piece is its part of the output block when each load of the scratch holds the states before its chunk. -/
theorem outPieces_of {i : grid0.Coords} {x : Vec Ideal S2x513x2048 .f32} {u v : FVec Ideal S256x256 .bf16} {a : Fin 2 → Fin 513 → ℕ → ℝ}
    (h : Env i x u v a) (arg2 : Memref sig .tc .vmem S2x513x2048 .f32) (harg2 : arg2.IsWhole)
    {s0 s1 s2 s3 s4 s5 s6 s7 s8 s9 s10 s11 s12 s13 s14 s15 : Vec Ideal S1x513x256 .bf16}
    (h0 : Holds i a 0 0 s0) (h1 : Holds i a 1 0 s1) (h2 : Holds i a 0 1 s2) (h3 : Holds i a 1 1 s3) (h4 : Holds i a 0 2 s4) (h5 : Holds i a 1 2 s5) (h6 : Holds i a 0 3 s6) (h7 : Holds i a 1 3 s7) (h8 : Holds i a 0 4 s8) (h9 : Holds i a 1 4 s9) (h10 : Holds i a 0 5 s10) (h11 : Holds i a 1 5 s11) (h12 : Holds i a 0 6 s12) (h13 : Holds i a 1 6 s13) (h14 : Holds i a 0 7 s14) (h15 : Holds i a 1 7 s15) :
    View.PiecesOf (outOf i a x) (outPieces i x u v arg2 harg2 s0 s1 s2 s3 s4 s5 s6 s7 s8 s9 s10 s11 s12 s13 s14 s15) :=
  ⟨h.out arg2 harg2 1 7 (by decide) inb_S2x513x2048_S1x513x256_1_0_1792 h15,
    h.out arg2 harg2 0 7 (by decide) inb_S2x513x2048_S1x513x256_0_0_1792 h14,
    h.out arg2 harg2 1 6 (by decide) inb_S2x513x2048_S1x513x256_1_0_1536 h13,
    h.out arg2 harg2 0 6 (by decide) inb_S2x513x2048_S1x513x256_0_0_1536 h12,
    h.out arg2 harg2 1 5 (by decide) inb_S2x513x2048_S1x513x256_1_0_1280 h11,
    h.out arg2 harg2 0 5 (by decide) inb_S2x513x2048_S1x513x256_0_0_1280 h10,
    h.out arg2 harg2 1 4 (by decide) inb_S2x513x2048_S1x513x256_1_0_1024 h9,
    h.out arg2 harg2 0 4 (by decide) inb_S2x513x2048_S1x513x256_0_0_1024 h8,
    h.out arg2 harg2 1 3 (by decide) inb_S2x513x2048_S1x513x256_1_0_768 h7,
    h.out arg2 harg2 0 3 (by decide) inb_S2x513x2048_S1x513x256_0_0_768 h6,
    h.out arg2 harg2 1 2 (by decide) inb_S2x513x2048_S1x513x256_1_0_512 h5,
    h.out arg2 harg2 0 2 (by decide) inb_S2x513x2048_S1x513x256_0_0_512 h4,
    h.out arg2 harg2 1 1 (by decide) inb_S2x513x2048_S1x513x256_1_0_256 h3,
    h.out arg2 harg2 0 1 (by decide) inb_S2x513x2048_S1x513x256_0_0_256 h2,
    h.out arg2 harg2 1 0 (by decide) inb_S2x513x2048_S1x513x256_1_0_0 h1,
    h.out arg2 harg2 0 0 (by decide) inb_S2x513x2048_S1x513x256_0_0_0 h0, trivial⟩

/-- The pieces cover the output block. -/
theorem outPieces_cover (i : grid0.Coords) (x : Vec Ideal S2x513x2048 .f32) (u v : FVec Ideal S256x256 .bf16)
    (arg2 : Memref sig .tc .vmem S2x513x2048 .f32) (harg2 : arg2.IsWhole) (s0 s1 s2 s3 s4 s5 s6 s7 s8 s9 s10 s11 s12 s13 s14 s15 : Vec Ideal S1x513x256 .bf16) (y : S2x513x2048.Idx) :
    ∃ p ∈ outPieces i x u v arg2 harg2 s0 s1 s2 s3 s4 s5 s6 s7 s8 s9 s10 s11 s12 s13 s14 s15, y ∈ p.1.set :=
  View.cover_of_tiledL (s := S2x513x2048) _ S1x513x256.size (by sl_kernel_rfl) y

end Cert.KernelIdeal.Run

end
-- ==== Proof.First.lean ====
/- The value of the run at a first time block: what it leaves in the output block and in the scratch. -/
module

public import proofs.«01_k».proof.Proof.Block

@[expose] public section

set_option maxRecDepth 16384

noncomputable section

namespace Cert.KernelIdeal.Run

open Idealize.ShloMosaic Cert.KernelIdeal Cert.KernelIdeal.Gen Cert.Ema

variable (c : Dev nD) (i : grid0.Coords)
  (arg2 : Memref sig .tc .vmem S2x513x2048 .f32) (harg2 : arg2.IsWhole) (arg3 : Memref sig .tc .vmem S256x256 .bf16) (harg3 : arg3.IsWhole)
  (arg4 : Memref sig .tc .vmem S256x256 .bf16) (harg4 : arg4.IsWhole) (arg5 : Memref sig .tc .vmem S2x513x2048 .f32) (harg5 : arg5.IsWhole)
  (arg6 : Memref sig .tc .vmem S2x513x256 .bf16) (harg6 : arg6.IsWhole)
  (x : Vec Ideal S2x513x2048 .f32) (u v : Vec Ideal S256x256 .bf16) (a : Fin 2 → Fin 513 → ℕ → ℝ)

/-- A slab of the first states holds them at every column. -/
theorem slab_at (f : Fin 513) (j : Fin 256) : (k0_pay5 (F := Ideal)) (ix3 0 f j) = ((start f.val : ℝ) : EReal) := by
  unfold k0_pay5 k0_pay4
  pointwise
  have h1 : Named.named (F := Ideal) (φ := .f32) κ "init_first" 0x3A83126F#32 = ((1 / 1000 : ℝ) : EReal) :=
    IdealRules.named_const.ideal_named_scalar _ _ _ _ rfl
  have h2 : Named.named (F := Ideal) (φ := .f32) κ "init_step" 0xB5EBEDFA#32 = ((-9 / 5120000 : ℝ) : EReal) :=
    IdealRules.named_const.ideal_named_scalar _ _ _ _ rfl
  have h3 : FloatOps.sitofp (F := Ideal) .f32 (BitVec.ofNat 32 f.val) = ((f.val : ℝ) : EReal) := by
    show (((BitVec.ofNat 32 f.val).toInt : ℝ) : EReal) = _
    rw [toInt_ofNat (by omega)]
    norm_cast
  refine (congrArg₂ (fun p q : EReal => p + ((f.val : ℝ) : EReal) * q) h1 h2 |>.symm.trans ?_).symm.trans ?_
  · rw [h3]
  · rw [← EReal.coe_mul, ← EReal.coe_add]
    unfold start
    congr 1
    ring

/-- At a first time block both slabs hold the states before the first column. -/
theorem slab_holds (hi : (i 1).val = 0) (g : Fin 2) : Holds i a g 0 (k0_pay5 (F := Ideal)) := fun f =>
  (slab_at f 255).trans (by rw [hi]; rfl)

/-- What the run is given, its tables as loaded. -/
theorem loadedFirst (h : Env i x u v a) : Env i x (runFirst.sl.r c arg3 harg3 u) (runFirst.sl.r_1 c arg4 harg4 v) a :=
  h.loaded (fun p q => table_at u arg3 harg3 p q) (fun p q => table_at v arg4 harg4 p q)

set_option maxHeartbeats 2000000 in
/-- Before each chunk the scratch of its part holds the states: the first run's sixteen loads of the scratch, in order. -/
theorem chainFirst (hi : (i 1).val = 0) (h : Env i x u v a) :
    Holds i a 0 0 (runFirst.sl.v24 (F := Ideal) c arg6)
      ∧ Holds i a 1 0 (runFirst.sl.v47 c i arg2 harg2 arg3 harg3 arg4 harg4 arg6 x u v)
      ∧ Holds i a 0 1 (runFirst.sl.v76 c i arg2 harg2 arg3 harg3 arg4 harg4 arg6 x u v)
      ∧ Holds i a 1 1 (runFirst.sl.v99 c i arg2 harg2 arg3 harg3 arg4 harg4 arg6 x u v)
      ∧ Holds i a 0 2 (runFirst.sl.v128 c i arg2 harg2 arg3 harg3 arg4 harg4 arg6 x u v)
      ∧ Holds i a 1 2 (runFirst.sl.v151 c i arg2 harg2 arg3 harg3 arg4 harg4 arg6 x u v)
      ∧ Holds i a 0 3 (runFirst.sl.v180 c i arg2 harg2 arg3 harg3 arg4 harg4 arg6 x u v)
      ∧ Holds i a 1 3 (runFirst.sl.v203 c i arg2 harg2 arg3 harg3 arg4 harg4 arg6 x u v)
      ∧ Holds i a 0 4 (runFirst.sl.v232 c i arg2 harg2 arg3 harg3 arg4 harg4 arg6 x u v)
      ∧ Holds i a 1 4 (runFirst.sl.v255 c i arg2 harg2 arg3 harg3 arg4 harg4 arg6 x u v)
      ∧ Holds i a 0 5 (runFirst.sl.v284 c i arg2 harg2 arg3 harg3 arg4 harg4 arg6 x u v)
      ∧ Holds i a 1 5 (runFirst.sl.v307 c i arg2 harg2 arg3 harg3 arg4 harg4 arg6 x u v)
      ∧ Holds i a 0 6 (runFirst.sl.v336 c i arg2 harg2 arg3 harg3 arg4 harg4 arg6 x u v)
      ∧ Holds i a 1 6 (runFirst.sl.v359 c i arg2 harg2 arg3 harg3 arg4 harg4 arg6 x u v)
      ∧ Holds i a 0 7 (runFirst.sl.v388 c i arg2 harg2 arg3 harg3 arg4 harg4 arg6 x u v)
      ∧ Holds i a 1 7 (runFirst.sl.v411 c i arg2 harg2 arg3 harg3 arg4 harg4 arg6 x u v) := by
  have hl := loadedFirst c i arg3 harg3 arg4 harg4 x u v a h
  have e0 : (runFirst.sl.v24 (F := Ideal) c arg6) = k0_pay5 (F := Ideal) := load_second _ _ _ _ _ _ (by decide)
  have h0 : Holds i a 0 0 (runFirst.sl.v24 (F := Ideal) c arg6) := by rw [e0]; exact slab_holds i a hi 0
  have e1 : (runFirst.sl.v47 c i arg2 harg2 arg3 harg3 arg4 harg4 arg6 x u v) = k0_pay6 (F := Ideal) := load_second _ _ _ _ _ _ (by decide)
  have h1 : Holds i a 1 0 (runFirst.sl.v47 c i arg2 harg2 arg3 harg3 arg4 harg4 arg6 x u v) := by rw [e1]; exact slab_holds i a hi 1
  have e2 : (runFirst.sl.v76 c i arg2 harg2 arg3 harg3 arg4 harg4 arg6 x u v) = carried (states (inside i 0#32) (runFirst.sl.r c arg3 harg3 u) (runFirst.sl.r_1 c arg4 harg4 v)
      (load arg2 harg2 x 0 0 inb_S2x513x2048_S1x513x256_0_0_0) (runFirst.sl.v24 (F := Ideal) c arg6)) := load_second _ _ _ _ _ _ (by decide)
  have h2 : Holds i a 0 1 (runFirst.sl.v76 c i arg2 harg2 arg3 harg3 arg4 harg4 arg6 x u v) := by rw [e2]; exact hl.next arg2 harg2 0 0 (by decide) inb_S2x513x2048_S1x513x256_0_0_0 h0
  have e3 : (runFirst.sl.v99 c i arg2 harg2 arg3 harg3 arg4 harg4 arg6 x u v) = carried (states (inside i 0#32) (runFirst.sl.r c arg3 harg3 u) (runFirst.sl.r_1 c arg4 harg4 v)
      (load arg2 harg2 x 1 0 inb_S2x513x2048_S1x513x256_1_0_0) (runFirst.sl.v47 c i arg2 harg2 arg3 harg3 arg4 harg4 arg6 x u v)) := load_second _ _ _ _ _ _ (by decide)
  have h3 : Holds i a 1 1 (runFirst.sl.v99 c i arg2 harg2 arg3 harg3 arg4 harg4 arg6 x u v) := by rw [e3]; exact hl.next arg2 harg2 1 0 (by decide) inb_S2x513x2048_S1x513x256_1_0_0 h1
  have e4 : (runFirst.sl.v128 c i arg2 harg2 arg3 harg3 arg4 harg4 arg6 x u v) = carried (states (inside i 256#32) (runFirst.sl.r c arg3 harg3 u) (runFirst.sl.r_1 c arg4 harg4 v)
      (load arg2 harg2 x 0 256 inb_S2x513x2048_S1x513x256_0_0_256) (runFirst.sl.v76 c i arg2 harg2 arg3 harg3 arg4 harg4 arg6 x u v)) := load_second _ _ _ _ _ _ (by decide)
  have h4 : Holds i a 0 2 (runFirst.sl.v128 c i arg2 harg2 arg3 harg3 arg4 harg4 arg6 x u v) := by rw [e4]; exact hl.next arg2 harg2 0 1 (by decide) inb_S2x513x2048_S1x513x256_0_0_256 h2
  have e5 : (runFirst.sl.v151 c i arg2 harg2 arg3 harg3 arg4 harg4 arg6 x u v) = carried (states (inside i 256#32) (runFirst.sl.r c arg3 harg3 u) (runFirst.sl.r_1 c arg4 harg4 v)
      (load arg2 harg2 x 1 256 inb_S2x513x2048_S1x513x256_1_0_256) (runFirst.sl.v99 c i arg2 harg2 arg3 harg3 arg4 harg4 arg6 x u v)) := load_second _ _ _ _ _ _ (by decide)
  have h5 : Holds i a 1 2 (runFirst.sl.v151 c i arg2 harg2 arg3 harg3 arg4 harg4 arg6 x u v) := by rw [e5]; exact hl.next arg2 harg2 1 1 (by decide) inb_S2x513x2048_S1x513x256_1_0_256 h3
  have e6 : (runFirst.sl.v180 c i arg2 harg2 arg3 harg3 arg4 harg4 arg6 x u v) = carried (states (inside i 512#32) (runFirst.sl.r c arg3 harg3 u) (runFirst.sl.r_1 c arg4 harg4 v)
      (load arg2 harg2 x 0 512 inb_S2x513x2048_S1x513x256_0_0_512) (runFirst.sl.v128 c i arg2 harg2 arg3 harg3 arg4 harg4 arg6 x u v)) := load_second _ _ _ _ _ _ (by decide)
  have h6 : Holds i a 0 3 (runFirst.sl.v180 c i arg2 harg2 arg3 harg3 arg4 harg4 arg6 x u v) := by rw [e6]; exact hl.next arg2 harg2 0 2 (by decide) inb_S2x513x2048_S1x513x256_0_0_512 h4
  have e7 : (runFirst.sl.v203 c i arg2 harg2 arg3 harg3 arg4 harg4 arg6 x u v) = carried (states (inside i 512#32) (runFirst.sl.r c arg3 harg3 u) (runFirst.sl.r_1 c arg4 harg4 v)
      (load arg2 harg2 x 1 512 inb_S2x513x2048_S1x513x256_1_0_512) (runFirst.sl.v151 c i arg2 harg2 arg3 harg3 arg4 harg4 arg6 x u v)) := load_second _ _ _ _ _ _ (by decide)
  have h7 : Holds i a 1 3 (runFirst.sl.v203 c i arg2 harg2 arg3 harg3 arg4 harg4 arg6 x u v) := by rw [e7]; exact hl.next arg2 harg2 1 2 (by decide) inb_S2x513x2048_S1x513x256_1_0_512 h5
  have e8 : (runFirst.sl.v232 c i arg2 harg2 arg3 harg3 arg4 harg4 arg6 x u v) = carried (states (inside i 768#32) (runFirst.sl.r c arg3 harg3 u) (runFirst.sl.r_1 c arg4 harg4 v)
      (load arg2 harg2 x 0 768 inb_S2x513x2048_S1x513x256_0_0_768) (runFirst.sl.v180 c i arg2 harg2 arg3 harg3 arg4 harg4 arg6 x u v)) := load_second _ _ _ _ _ _ (by decide)
  have h8 : Holds i a 0 4 (runFirst.sl.v232 c i arg2 harg2 arg3 harg3 arg4 harg4 arg6 x u v) := by rw [e8]; exact hl.next arg2 harg2 0 3 (by decide) inb_S2x513x2048_S1x513x256_0_0_768 h6
  have e9 : (runFirst.sl.v255 c i arg2 harg2 arg3 harg3 arg4 harg4 arg6 x u v) = carried (states (inside i 768#32) (runFirst.sl.r c arg3 harg3 u) (runFirst.sl.r_1 c arg4 harg4 v)
      (load arg2 harg2 x 1 768 inb_S2x513x2048_S1x513x256_1_0_768) (runFirst.sl.v203 c i arg2 harg2 arg3 harg3 arg4 harg4 arg6 x u v)) := load_second _ _ _ _ _ _ (by decide)
  have h9 : Holds i a 1 4 (runFirst.sl.v255 c i arg2 harg2 arg3 harg3 arg4 harg4 arg6 x u v) := by rw [e9]; exact hl.next arg2 harg2 1 3 (by decide) inb_S2x513x2048_S1x513x256_1_0_768 h7
  have e10 : (runFirst.sl.v284 c i arg2 harg2 arg3 harg3 arg4 harg4 arg6 x u v) = carried (states (inside i 1024#32) (runFirst.sl.r c arg3 harg3 u) (runFirst.sl.r_1 c arg4 harg4 v)
      (load arg2 harg2 x 0 1024 inb_S2x513x2048_S1x513x256_0_0_1024) (runFirst.sl.v232 c i arg2 harg2 arg3 harg3 arg4 harg4 arg6 x u v)) := load_second _ _ _ _ _ _ (by decide)
  have h10 : Holds i a 0 5 (runFirst.sl.v284 c i arg2 harg2 arg3 harg3 arg4 harg4 arg6 x u v) := by rw [e10]; exact hl.next arg2 harg2 0 4 (by decide) inb_S2x513x2048_S1x513x256_0_0_1024 h8
  have e11 : (runFirst.sl.v307 c i arg2 harg2 arg3 harg3 arg4 harg4 arg6 x u v) = carried (states (inside i 1024#32) (runFirst.sl.r c arg3 harg3 u) (runFirst.sl.r_1 c arg4 harg4 v)
      (load arg2 harg2 x 1 1024 inb_S2x513x2048_S1x513x256_1_0_1024) (runFirst.sl.v255 c i arg2 harg2 arg3 harg3 arg4 harg4 arg6 x u v)) := load_second _ _ _ _ _ _ (by decide)
  have h11 : Holds i a 1 5 (runFirst.sl.v307 c i arg2 harg2 arg3 harg3 arg4 harg4 arg6 x u v) := by rw [e11]; exact hl.next arg2 harg2 1 4 (by decide) inb_S2x513x2048_S1x513x256_1_0_1024 h9
  have e12 : (runFirst.sl.v336 c i arg2 harg2 arg3 harg3 arg4 harg4 arg6 x u v) = carried (states (inside i 1280#32) (runFirst.sl.r c arg3 harg3 u) (runFirst.sl.r_1 c arg4 harg4 v)
      (load arg2 harg2 x 0 1280 inb_S2x513x2048_S1x513x256_0_0_1280) (runFirst.sl.v284 c i arg2 harg2 arg3 harg3 arg4 harg4 arg6 x u v)) := load_second _ _ _ _ _ _ (by decide)
  have h12 : Holds i a 0 6 (runFirst.sl.v336 c i arg2 harg2 arg3 harg3 arg4 harg4 arg6 x u v) := by rw [e12]; exact hl.next arg2 harg2 0 5 (by decide) inb_S2x513x2048_S1x513x256_0_0_1280 h10
  have e13 : (runFirst.sl.v359 c i arg2 harg2 arg3 harg3 arg4 harg4 arg6 x u v) = carried (states (inside i 1280#32) (runFirst.sl.r c arg3 harg3 u) (runFirst.sl.r_1 c arg4 harg4 v)
      (load arg2 harg2 x 1 1280 inb_S2x513x2048_S1x513x256_1_0_1280) (runFirst.sl.v307 c i arg2 harg2 arg3 harg3 arg4 harg4 arg6 x u v)) := load_second _ _ _ _ _ _ (by decide)
  have h13 : Holds i a 1 6 (runFirst.sl.v359 c i arg2 harg2 arg3 harg3 arg4 harg4 arg6 x u v) := by rw [e13]; exact hl.next arg2 harg2 1 5 (by decide) inb_S2x513x2048_S1x513x256_1_0_1280 h11
  have e14 : (runFirst.sl.v388 c i arg2 harg2 arg3 harg3 arg4 harg4 arg6 x u v) = carried (states (inside i 1536#32) (runFirst.sl.r c arg3 harg3 u) (runFirst.sl.r_1 c arg4 harg4 v)
      (load arg2 harg2 x 0 1536 inb_S2x513x2048_S1x513x256_0_0_1536) (runFirst.sl.v336 c i arg2 harg2 arg3 harg3 arg4 harg4 arg6 x u v)) := load_second _ _ _ _ _ _ (by decide)
  have h14 : Holds i a 0 7 (runFirst.sl.v388 c i arg2 harg2 arg3 harg3 arg4 harg4 arg6 x u v) := by rw [e14]; exact hl.next arg2 harg2 0 6 (by decide) inb_S2x513x2048_S1x513x256_0_0_1536 h12
  have e15 : (runFirst.sl.v411 c i arg2 harg2 arg3 harg3 arg4 harg4 arg6 x u v) = carried (states (inside i 1536#32) (runFirst.sl.r c arg3 harg3 u) (runFirst.sl.r_1 c arg4 harg4 v)
      (load arg2 harg2 x 1 1536 inb_S2x513x2048_S1x513x256_1_0_1536) (runFirst.sl.v359 c i arg2 harg2 arg3 harg3 arg4 harg4 arg6 x u v)) := load_second _ _ _ _ _ _ (by decide)
  have h15 : Holds i a 1 7 (runFirst.sl.v411 c i arg2 harg2 arg3 harg3 arg4 harg4 arg6 x u v) := by rw [e15]; exact hl.next arg2 harg2 1 6 (by decide) inb_S2x513x2048_S1x513x256_1_0_1536 h13
  exact ⟨h0, h1, h2, h3, h4, h5, h6, h7, h8, h9, h10, h11, h12, h13, h14, h15⟩

set_option maxHeartbeats 2000000 in
/-- The pieces the run stores into the output block, written out. -/
theorem piecesFirst (hc : First i) :
    (runFirst c i arg2 harg2 arg3 harg3 arg4 harg4 arg5 harg5 arg6 harg6 hc x u v).1 = outPieces i x (runFirst.sl.r c arg3 harg3 u) (runFirst.sl.r_1 c arg4 harg4 v) arg2 harg2
      (runFirst.sl.v24 (F := Ideal) c arg6) (runFirst.sl.v47 c i arg2 harg2 arg3 harg3 arg4 harg4 arg6 x u v) (runFirst.sl.v76 c i arg2 harg2 arg3 harg3 arg4 harg4 arg6 x u v) (runFirst.sl.v99 c i arg2 harg2 arg3 harg3 arg4 harg4 arg6 x u v) (runFirst.sl.v128 c i arg2 harg2 arg3 harg3 arg4 harg4 arg6 x u v) (runFirst.sl.v151 c i arg2 harg2 arg3 harg3 arg4 harg4 arg6 x u v) (runFirst.sl.v180 c i arg2 harg2 arg3 harg3 arg4 harg4 arg6 x u v) (runFirst.sl.v203 c i arg2 harg2 arg3 harg3 arg4 harg4 arg6 x u v) (runFirst.sl.v232 c i arg2 harg2 arg3 harg3 arg4 harg4 arg6 x u v) (runFirst.sl.v255 c i arg2 harg2 arg3 harg3 arg4 harg4 arg6 x u v) (runFirst.sl.v284 c i arg2 harg2 arg3 harg3 arg4 harg4 arg6 x u v) (runFirst.sl.v307 c i arg2 harg2 arg3 harg3 arg4 harg4 arg6 x u v) (runFirst.sl.v336 c i arg2 harg2 arg3 harg3 arg4 harg4 arg6 x u v) (runFirst.sl.v359 c i arg2 harg2 arg3 harg3 arg4 harg4 arg6 x u v) (runFirst.sl.v388 c i arg2 harg2 arg3 harg3 arg4 harg4 arg6 x u v) (runFirst.sl.v411 c i arg2 harg2 arg3 harg3 arg4 harg4 arg6 x u v) := rfl

set_option maxHeartbeats 2000000 in
/-- What the run leaves in the output block. -/
theorem outputFirst (hc : First i) (hi : (i 1).val = 0) (h : Env i x u v a)
    (fo : arg5.view.ty.Contents (Elt Ideal)) :
    arg5.view.read (Elt Ideal) (arg5.view.writes (Elt Ideal) fo (runFirst c i arg2 harg2 arg3 harg3 arg4 harg4 arg5 harg5 arg6 harg6 hc x u v).1) = outOf i a x :=
  by
  have hl := loadedFirst c i arg3 harg3 arg4 harg4 x u v a h
  obtain ⟨h0, h1, h2, h3, h4, h5, h6, h7, h8, h9, h10, h11, h12, h13, h14, h15⟩ := chainFirst c i arg2 harg2 arg3 harg3 arg4 harg4 arg6 x u v a hi h
  rw [piecesFirst c i arg2 harg2 arg3 harg3 arg4 harg4 arg5 harg5 arg6 harg6 x u v hc]
  exact funext fun y => View.read_writes_apply_of_pieces arg5.view fo (outOf i a x) _
    (outPieces_of hl arg2 harg2 h0 h1 h2 h3 h4 h5 h6 h7 h8 h9 h10 h11 h12 h13 h14 h15).mem y (outPieces_cover _ _ _ _ _ _ _ _ _ _ _ _ _ _ _ _ _ _ _ _ _ _ y)

set_option maxHeartbeats 2000000 in
/-- What the run leaves in the scratch's last column. -/
theorem scratchFirst (hc : First i) (hi : (i 1).val = 0) (h : Env i x u v a)
    (fs : arg6.view.ty.Contents (Elt Ideal)) (g : Fin 2) (f : Fin 513) :
    arg6.view.read (Elt Ideal) (arg6.view.writes (Elt Ideal) fs (runFirst c i arg2 harg2 arg3 harg3 arg4 harg4 arg5 harg5 arg6 harg6 hc x u v).2.1) (ix3 g f 255)
      = ((stateOf a g f (2048 * (i 1).val + 2048) : ℝ) : EReal) := by
  have hl := loadedFirst c i arg3 harg3 arg4 harg4 x u v a h
  obtain ⟨h0, h1, h2, h3, h4, h5, h6, h7, h8, h9, h10, h11, h12, h13, h14, h15⟩ := chainFirst c i arg2 harg2 arg3 harg3 arg4 harg4 arg6 x u v a hi h
  exact left_at arg6.view fs i a 8 _ _ _
    (hl.next arg2 harg2 0 7 (by decide) inb_S2x513x2048_S1x513x256_0_0_1792 h14)
    (hl.next arg2 harg2 1 7 (by decide) inb_S2x513x2048_S1x513x256_1_0_1792 h15) g f

end Cert.KernelIdeal.Run

end
-- ==== Proof.Second.lean ====
/- The value of the run at a second time block: what it leaves in the output block and in the scratch. -/
module

public import proofs.«01_k».proof.Proof.Block

@[expose] public section

set_option maxRecDepth 16384

noncomputable section

namespace Cert.KernelIdeal.Run

open Idealize.ShloMosaic Cert.KernelIdeal Cert.KernelIdeal.Gen Cert.Ema

variable (c : Dev nD) (i : grid0.Coords)
  (arg2 : Memref sig .tc .vmem S2x513x2048 .f32) (harg2 : arg2.IsWhole) (arg3 : Memref sig .tc .vmem S256x256 .bf16) (harg3 : arg3.IsWhole)
  (arg4 : Memref sig .tc .vmem S256x256 .bf16) (harg4 : arg4.IsWhole) (arg5 : Memref sig .tc .vmem S2x513x2048 .f32) (harg5 : arg5.IsWhole)
  (arg6 : Memref sig .tc .vmem S2x513x256 .bf16) (harg6 : arg6.IsWhole)
  (x : Vec Ideal S2x513x2048 .f32) (u v : Vec Ideal S256x256 .bf16) (xs : Vec Ideal S2x513x256 .bf16) (a : Fin 2 → Fin 513 → ℕ → ℝ)

/-- A part's slab of the scratch, loaded before the run stores anything, holds what the scratch holds. -/
theorem found_holds (g : Fin 2) (inb : ∀ b : Fin 3, ![g.val, 0, 0] b + S1x513x256.size b ≤ S2x513x256.size b)
    (hs : ∀ f : Fin 513, xs (ix3 g f 255) = ((stateOf a g f (2048 * (i 1).val) : ℝ) : EReal)) :
    Holds i a g 0 (View.readAt (Elt Ideal) arg6.view (Rect.unit (s := S2x513x256) ![g.val, 0, 0] S1x513x256.size inb).toLoadRect (harg6.unread xs)) :=
  fun f => (harg6.readAt_unread xs _ _).trans ((congrArg xs (place 256 g 0 inb f 255 (by decide))).trans (hs f))

/-- What the run is given, its tables as loaded. -/
theorem loadedSecond (h : Env i x u v a) : Env i x (runSecond.sl.r c arg3 harg3 u) (runSecond.sl.r_1 c arg4 harg4 v) a :=
  h.loaded (fun p q => table_at u arg3 harg3 p q) (fun p q => table_at v arg4 harg4 p q)

set_option maxHeartbeats 2000000 in
/-- Before each chunk the scratch of its part holds the states: the second run's sixteen loads of the scratch, in order. -/
theorem chainSecond (h : Env i x u v a)
    (hs : ∀ (g : Fin 2) (f : Fin 513), xs (ix3 g f 255) = ((stateOf a g f (2048 * (i 1).val) : ℝ) : EReal)) :
    Holds i a 0 0 (View.readAt (Elt Ideal) arg6.view (Rect.unit (s := S2x513x256) ![0, 0, 0] S1x513x256.size inb_S2x513x256_S1x513x256_0_0_0).toLoadRect (harg6.unread xs))
      ∧ Holds i a 1 0 (runSecond.sl.v47 c arg6 harg6 xs)
      ∧ Holds i a 0 1 (runSecond.sl.v76 c i arg2 harg2 arg3 harg3 arg4 harg4 arg6 harg6 x u v xs)
      ∧ Holds i a 1 1 (runSecond.sl.v99 c i arg2 harg2 arg3 harg3 arg4 harg4 arg6 harg6 x u v xs)
      ∧ Holds i a 0 2 (runSecond.sl.v128 c i arg2 harg2 arg3 harg3 arg4 harg4 arg6 harg6 x u v xs)
      ∧ Holds i a 1 2 (runSecond.sl.v151 c i arg2 harg2 arg3 harg3 arg4 harg4 arg6 harg6 x u v xs)
      ∧ Holds i a 0 3 (runSecond.sl.v180 c i arg2 harg2 arg3 harg3 arg4 harg4 arg6 harg6 x u v xs)
      ∧ Holds i a 1 3 (runSecond.sl.v203 c i arg2 harg2 arg3 harg3 arg4 harg4 arg6 harg6 x u v xs)
      ∧ Holds i a 0 4 (runSecond.sl.v232 c i arg2 harg2 arg3 harg3 arg4 harg4 arg6 harg6 x u v xs)
      ∧ Holds i a 1 4 (runSecond.sl.v255 c i arg2 harg2 arg3 harg3 arg4 harg4 arg6 harg6 x u v xs)
      ∧ Holds i a 0 5 (runSecond.sl.v284 c i arg2 harg2 arg3 harg3 arg4 harg4 arg6 harg6 x u v xs)
      ∧ Holds i a 1 5 (runSecond.sl.v307 c i arg2 harg2 arg3 harg3 arg4 harg4 arg6 harg6 x u v xs)
      ∧ Holds i a 0 6 (runSecond.sl.v336 c i arg2 harg2 arg3 harg3 arg4 harg4 arg6 harg6 x u v xs)
      ∧ Holds i a 1 6 (runSecond.sl.v359 c i arg2 harg2 arg3 harg3 arg4 harg4 arg6 harg6 x u v xs)
      ∧ Holds i a 0 7 (runSecond.sl.v388 c i arg2 harg2 arg3 harg3 arg4 harg4 arg6 harg6 x u v xs)
      ∧ Holds i a 1 7 (runSecond.sl.v411 c i arg2 harg2 arg3 harg3 arg4 harg4 arg6 harg6 x u v xs) := by
  have hl := loadedSecond c i arg3 harg3 arg4 harg4 x u v a h
  have h0 : Holds i a 0 0 (View.readAt (Elt Ideal) arg6.view (Rect.unit (s := S2x513x256) ![0, 0, 0] S1x513x256.size inb_S2x513x256_S1x513x256_0_0_0).toLoadRect (harg6.unread xs)) := found_holds i arg6 harg6 xs a 0 inb_S2x513x256_S1x513x256_0_0_0 (hs 0)
  have h1 : Holds i a 1 0 (runSecond.sl.v47 c arg6 harg6 xs) := found_holds i arg6 harg6 xs a 1 inb_S2x513x256_S1x513x256_1_0_0 (hs 1)
  have e2 : (runSecond.sl.v76 c i arg2 harg2 arg3 harg3 arg4 harg4 arg6 harg6 x u v xs) = carried (states (inside i 0#32) (runSecond.sl.r c arg3 harg3 u) (runSecond.sl.r_1 c arg4 harg4 v)
      (load arg2 harg2 x 0 0 inb_S2x513x2048_S1x513x256_0_0_0) (View.readAt (Elt Ideal) arg6.view (Rect.unit (s := S2x513x256) ![0, 0, 0] S1x513x256.size inb_S2x513x256_S1x513x256_0_0_0).toLoadRect (harg6.unread xs))) := load_second _ _ _ _ _ _ (by decide)
  have h2 : Holds i a 0 1 (runSecond.sl.v76 c i arg2 harg2 arg3 harg3 arg4 harg4 arg6 harg6 x u v xs) := by rw [e2]; exact hl.next arg2 harg2 0 0 (by decide) inb_S2x513x2048_S1x513x256_0_0_0 h0
  have e3 : (runSecond.sl.v99 c i arg2 harg2 arg3 harg3 arg4 harg4 arg6 harg6 x u v xs) = carried (states (inside i 0#32) (runSecond.sl.r c arg3 harg3 u) (runSecond.sl.r_1 c arg4 harg4 v)
      (load arg2 harg2 x 1 0 inb_S2x513x2048_S1x513x256_1_0_0) (runSecond.sl.v47 c arg6 harg6 xs)) := load_second _ _ _ _ _ _ (by decide)
  have h3 : Holds i a 1 1 (runSecond.sl.v99 c i arg2 harg2 arg3 harg3 arg4 harg4 arg6 harg6 x u v xs) := by rw [e3]; exact hl.next arg2 harg2 1 0 (by decide) inb_S2x513x2048_S1x513x256_1_0_0 h1
  have e4 : (runSecond.sl.v128 c i arg2 harg2 arg3 harg3 arg4 harg4 arg6 harg6 x u v xs) = carried (states (inside i 256#32) (runSecond.sl.r c arg3 harg3 u) (runSecond.sl.r_1 c arg4 harg4 v)
      (load arg2 harg2 x 0 256 inb_S2x513x2048_S1x513x256_0_0_256) (runSecond.sl.v76 c i arg2 harg2 arg3 harg3 arg4 harg4 arg6 harg6 x u v xs)) := load_second _ _ _ _ _ _ (by decide)
  have h4 : Holds i a 0 2 (runSecond.sl.v128 c i arg2 harg2 arg3 harg3 arg4 harg4 arg6 harg6 x u v xs) := by rw [e4]; exact hl.next arg2 harg2 0 1 (by decide) inb_S2x513x2048_S1x513x256_0_0_256 h2
  have e5 : (runSecond.sl.v151 c i arg2 harg2 arg3 harg3 arg4 harg4 arg6 harg6 x u v xs) = carried (states (inside i 256#32) (runSecond.sl.r c arg3 harg3 u) (runSecond.sl.r_1 c arg4 harg4 v)
      (load arg2 harg2 x 1 256 inb_S2x513x2048_S1x513x256_1_0_256) (runSecond.sl.v99 c i arg2 harg2 arg3 harg3 arg4 harg4 arg6 harg6 x u v xs)) := load_second _ _ _ _ _ _ (by decide)
  have h5 : Holds i a 1 2 (runSecond.sl.v151 c i arg2 harg2 arg3 harg3 arg4 harg4 arg6 harg6 x u v xs) := by rw [e5]; exact hl.next arg2 harg2 1 1 (by decide) inb_S2x513x2048_S1x513x256_1_0_256 h3
  have e6 : (runSecond.sl.v180 c i arg2 harg2 arg3 harg3 arg4 harg4 arg6 harg6 x u v xs) = carried (states (inside i 512#32) (runSecond.sl.r c arg3 harg3 u) (runSecond.sl.r_1 c arg4 harg4 v)
      (load arg2 harg2 x 0 512 inb_S2x513x2048_S1x513x256_0_0_512) (runSecond.sl.v128 c i arg2 harg2 arg3 harg3 arg4 harg4 arg6 harg6 x u v xs)) := load_second _ _ _ _ _ _ (by decide)
  have h6 : Holds i a 0 3 (runSecond.sl.v180 c i arg2 harg2 arg3 harg3 arg4 harg4 arg6 harg6 x u v xs) := by rw [e6]; exact hl.next arg2 harg2 0 2 (by decide) inb_S2x513x2048_S1x513x256_0_0_512 h4
  have e7 : (runSecond.sl.v203 c i arg2 harg2 arg3 harg3 arg4 harg4 arg6 harg6 x u v xs) = carried (states (inside i 512#32) (runSecond.sl.r c arg3 harg3 u) (runSecond.sl.r_1 c arg4 harg4 v)
      (load arg2 harg2 x 1 512 inb_S2x513x2048_S1x513x256_1_0_512) (runSecond.sl.v151 c i arg2 harg2 arg3 harg3 arg4 harg4 arg6 harg6 x u v xs)) := load_second _ _ _ _ _ _ (by decide)
  have h7 : Holds i a 1 3 (runSecond.sl.v203 c i arg2 harg2 arg3 harg3 arg4 harg4 arg6 harg6 x u v xs) := by rw [e7]; exact hl.next arg2 harg2 1 2 (by decide) inb_S2x513x2048_S1x513x256_1_0_512 h5
  have e8 : (runSecond.sl.v232 c i arg2 harg2 arg3 harg3 arg4 harg4 arg6 harg6 x u v xs) = carried (states (inside i 768#32) (runSecond.sl.r c arg3 harg3 u) (runSecond.sl.r_1 c arg4 harg4 v)
      (load arg2 harg2 x 0 768 inb_S2x513x2048_S1x513x256_0_0_768) (runSecond.sl.v180 c i arg2 harg2 arg3 harg3 arg4 harg4 arg6 harg6 x u v xs)) := load_second _ _ _ _ _ _ (by decide)
  have h8 : Holds i a 0 4 (runSecond.sl.v232 c i arg2 harg2 arg3 harg3 arg4 harg4 arg6 harg6 x u v xs) := by rw [e8]; exact hl.next arg2 harg2 0 3 (by decide) inb_S2x513x2048_S1x513x256_0_0_768 h6
  have e9 : (runSecond.sl.v255 c i arg2 harg2 arg3 harg3 arg4 harg4 arg6 harg6 x u v xs) = carried (states (inside i 768#32) (runSecond.sl.r c arg3 harg3 u) (runSecond.sl.r_1 c arg4 harg4 v)
      (load arg2 harg2 x 1 768 inb_S2x513x2048_S1x513x256_1_0_768) (runSecond.sl.v203 c i arg2 harg2 arg3 harg3 arg4 harg4 arg6 harg6 x u v xs)) := load_second _ _ _ _ _ _ (by decide)
  have h9 : Holds i a 1 4 (runSecond.sl.v255 c i arg2 harg2 arg3 harg3 arg4 harg4 arg6 harg6 x u v xs) := by rw [e9]; exact hl.next arg2 harg2 1 3 (by decide) inb_S2x513x2048_S1x513x256_1_0_768 h7
  have e10 : (runSecond.sl.v284 c i arg2 harg2 arg3 harg3 arg4 harg4 arg6 harg6 x u v xs) = carried (states (inside i 1024#32) (runSecond.sl.r c arg3 harg3 u) (runSecond.sl.r_1 c arg4 harg4 v)
      (load arg2 harg2 x 0 1024 inb_S2x513x2048_S1x513x256_0_0_1024) (runSecond.sl.v232 c i arg2 harg2 arg3 harg3 arg4 harg4 arg6 harg6 x u v xs)) := load_second _ _ _ _ _ _ (by decide)
  have h10 : Holds i a 0 5 (runSecond.sl.v284 c i arg2 harg2 arg3 harg3 arg4 harg4 arg6 harg6 x u v xs) := by rw [e10]; exact hl.next arg2 harg2 0 4 (by decide) inb_S2x513x2048_S1x513x256_0_0_1024 h8
  have e11 : (runSecond.sl.v307 c i arg2 harg2 arg3 harg3 arg4 harg4 arg6 harg6 x u v xs) = carried (states (inside i 1024#32) (runSecond.sl.r c arg3 harg3 u) (runSecond.sl.r_1 c arg4 harg4 v)
      (load arg2 harg2 x 1 1024 inb_S2x513x2048_S1x513x256_1_0_1024) (runSecond.sl.v255 c i arg2 harg2 arg3 harg3 arg4 harg4 arg6 harg6 x u v xs)) := load_second _ _ _ _ _ _ (by decide)
  have h11 : Holds i a 1 5 (runSecond.sl.v307 c i arg2 harg2 arg3 harg3 arg4 harg4 arg6 harg6 x u v xs) := by rw [e11]; exact hl.next arg2 harg2 1 4 (by decide) inb_S2x513x2048_S1x513x256_1_0_1024 h9
  have e12 : (runSecond.sl.v336 c i arg2 harg2 arg3 harg3 arg4 harg4 arg6 harg6 x u v xs) = carried (states (inside i 1280#32) (runSecond.sl.r c arg3 harg3 u) (runSecond.sl.r_1 c arg4 harg4 v)
      (load arg2 harg2 x 0 1280 inb_S2x513x2048_S1x513x256_0_0_1280) (runSecond.sl.v284 c i arg2 harg2 arg3 harg3 arg4 harg4 arg6 harg6 x u v xs)) := load_second _ _ _ _ _ _ (by decide)
  have h12 : Holds i a 0 6 (runSecond.sl.v336 c i arg2 harg2 arg3 harg3 arg4 harg4 arg6 harg6 x u v xs) := by rw [e12]; exact hl.next arg2 harg2 0 5 (by decide) inb_S2x513x2048_S1x513x256_0_0_1280 h10
  have e13 : (runSecond.sl.v359 c i arg2 harg2 arg3 harg3 arg4 harg4 arg6 harg6 x u v xs) = carried (states (inside i 1280#32) (runSecond.sl.r c arg3 harg3 u) (runSecond.sl.r_1 c arg4 harg4 v)
      (load arg2 harg2 x 1 1280 inb_S2x513x2048_S1x513x256_1_0_1280) (runSecond.sl.v307 c i arg2 harg2 arg3 harg3 arg4 harg4 arg6 harg6 x u v xs)) := load_second _ _ _ _ _ _ (by decide)
  have h13 : Holds i a 1 6 (runSecond.sl.v359 c i arg2 harg2 arg3 harg3 arg4 harg4 arg6 harg6 x u v xs) := by rw [e13]; exact hl.next arg2 harg2 1 5 (by decide) inb_S2x513x2048_S1x513x256_1_0_1280 h11
  have e14 : (runSecond.sl.v388 c i arg2 harg2 arg3 harg3 arg4 harg4 arg6 harg6 x u v xs) = carried (states (inside i 1536#32) (runSecond.sl.r c arg3 harg3 u) (runSecond.sl.r_1 c arg4 harg4 v)
      (load arg2 harg2 x 0 1536 inb_S2x513x2048_S1x513x256_0_0_1536) (runSecond.sl.v336 c i arg2 harg2 arg3 harg3 arg4 harg4 arg6 harg6 x u v xs)) := load_second _ _ _ _ _ _ (by decide)
  have h14 : Holds i a 0 7 (runSecond.sl.v388 c i arg2 harg2 arg3 harg3 arg4 harg4 arg6 harg6 x u v xs) := by rw [e14]; exact hl.next arg2 harg2 0 6 (by decide) inb_S2x513x2048_S1x513x256_0_0_1536 h12
  have e15 : (runSecond.sl.v411 c i arg2 harg2 arg3 harg3 arg4 harg4 arg6 harg6 x u v xs) = carried (states (inside i 1536#32) (runSecond.sl.r c arg3 harg3 u) (runSecond.sl.r_1 c arg4 harg4 v)
      (load arg2 harg2 x 1 1536 inb_S2x513x2048_S1x513x256_1_0_1536) (runSecond.sl.v359 c i arg2 harg2 arg3 harg3 arg4 harg4 arg6 harg6 x u v xs)) := load_second _ _ _ _ _ _ (by decide)
  have h15 : Holds i a 1 7 (runSecond.sl.v411 c i arg2 harg2 arg3 harg3 arg4 harg4 arg6 harg6 x u v xs) := by rw [e15]; exact hl.next arg2 harg2 1 6 (by decide) inb_S2x513x2048_S1x513x256_1_0_1536 h13
  exact ⟨h0, h1, h2, h3, h4, h5, h6, h7, h8, h9, h10, h11, h12, h13, h14, h15⟩

set_option maxHeartbeats 2000000 in
/-- The pieces the run stores into the output block, written out. -/
theorem piecesSecond (hc : ¬First i) :
    (runSecond c i arg2 harg2 arg3 harg3 arg4 harg4 arg5 harg5 arg6 harg6 hc x u v xs).1 = outPieces i x (runSecond.sl.r c arg3 harg3 u) (runSecond.sl.r_1 c arg4 harg4 v) arg2 harg2
      (View.readAt (Elt Ideal) arg6.view (Rect.unit (s := S2x513x256) ![0, 0, 0] S1x513x256.size inb_S2x513x256_S1x513x256_0_0_0).toLoadRect (harg6.unread xs)) (runSecond.sl.v47 c arg6 harg6 xs) (runSecond.sl.v76 c i arg2 harg2 arg3 harg3 arg4 harg4 arg6 harg6 x u v xs) (runSecond.sl.v99 c i arg2 harg2 arg3 harg3 arg4 harg4 arg6 harg6 x u v xs) (runSecond.sl.v128 c i arg2 harg2 arg3 harg3 arg4 harg4 arg6 harg6 x u v xs) (runSecond.sl.v151 c i arg2 harg2 arg3 harg3 arg4 harg4 arg6 harg6 x u v xs) (runSecond.sl.v180 c i arg2 harg2 arg3 harg3 arg4 harg4 arg6 harg6 x u v xs) (runSecond.sl.v203 c i arg2 harg2 arg3 harg3 arg4 harg4 arg6 harg6 x u v xs) (runSecond.sl.v232 c i arg2 harg2 arg3 harg3 arg4 harg4 arg6 harg6 x u v xs) (runSecond.sl.v255 c i arg2 harg2 arg3 harg3 arg4 harg4 arg6 harg6 x u v xs) (runSecond.sl.v284 c i arg2 harg2 arg3 harg3 arg4 harg4 arg6 harg6 x u v xs) (runSecond.sl.v307 c i arg2 harg2 arg3 harg3 arg4 harg4 arg6 harg6 x u v xs) (runSecond.sl.v336 c i arg2 harg2 arg3 harg3 arg4 harg4 arg6 harg6 x u v xs) (runSecond.sl.v359 c i arg2 harg2 arg3 harg3 arg4 harg4 arg6 harg6 x u v xs) (runSecond.sl.v388 c i arg2 harg2 arg3 harg3 arg4 harg4 arg6 harg6 x u v xs) (runSecond.sl.v411 c i arg2 harg2 arg3 harg3 arg4 harg4 arg6 harg6 x u v xs) := rfl

set_option maxHeartbeats 2000000 in
/-- What the run leaves in the output block. -/
theorem outputSecond (hc : ¬First i) (h : Env i x u v a)
    (hs : ∀ (g : Fin 2) (f : Fin 513), xs (ix3 g f 255) = ((stateOf a g f (2048 * (i 1).val) : ℝ) : EReal))
    (fo : arg5.view.ty.Contents (Elt Ideal)) :
    arg5.view.read (Elt Ideal) (arg5.view.writes (Elt Ideal) fo (runSecond c i arg2 harg2 arg3 harg3 arg4 harg4 arg5 harg5 arg6 harg6 hc x u v xs).1) = outOf i a x :=
  by
  have hl := loadedSecond c i arg3 harg3 arg4 harg4 x u v a h
  obtain ⟨h0, h1, h2, h3, h4, h5, h6, h7, h8, h9, h10, h11, h12, h13, h14, h15⟩ := chainSecond c i arg2 harg2 arg3 harg3 arg4 harg4 arg6 harg6 x u v xs a h hs
  rw [piecesSecond c i arg2 harg2 arg3 harg3 arg4 harg4 arg5 harg5 arg6 harg6 x u v xs hc]
  exact funext fun y => View.read_writes_apply_of_pieces arg5.view fo (outOf i a x) _
    (outPieces_of hl arg2 harg2 h0 h1 h2 h3 h4 h5 h6 h7 h8 h9 h10 h11 h12 h13 h14 h15).mem y (outPieces_cover _ _ _ _ _ _ _ _ _ _ _ _ _ _ _ _ _ _ _ _ _ _ y)

set_option maxHeartbeats 2000000 in
/-- What the run leaves in the scratch's last column. -/
theorem scratchSecond (hc : ¬First i) (h : Env i x u v a)
    (hs : ∀ (g : Fin 2) (f : Fin 513), xs (ix3 g f 255) = ((stateOf a g f (2048 * (i 1).val) : ℝ) : EReal))
    (fs : arg6.view.ty.Contents (Elt Ideal)) (g : Fin 2) (f : Fin 513) :
    arg6.view.read (Elt Ideal) (arg6.view.writes (Elt Ideal) fs (runSecond c i arg2 harg2 arg3 harg3 arg4 harg4 arg5 harg5 arg6 harg6 hc x u v xs).2.1) (ix3 g f 255)
      = ((stateOf a g f (2048 * (i 1).val + 2048) : ℝ) : EReal) := by
  have hl := loadedSecond c i arg3 harg3 arg4 harg4 x u v a h
  obtain ⟨h0, h1, h2, h3, h4, h5, h6, h7, h8, h9, h10, h11, h12, h13, h14, h15⟩ := chainSecond c i arg2 harg2 arg3 harg3 arg4 harg4 arg6 harg6 x u v xs a h hs
  exact left_at arg6.view fs i a 8 _ _ _
    (hl.next arg2 harg2 0 7 (by decide) inb_S2x513x2048_S1x513x256_0_0_1792 h14)
    (hl.next arg2 harg2 1 7 (by decide) inb_S2x513x2048_S1x513x256_1_0_1792 h15) g f

end Cert.KernelIdeal.Run

end
-- ==== Proof.KernelValue.lean ====
/- What a run of `KernelIdeal` leaves in its result array, over the extended reals: every entry is the input's entry times the reciprocal
   square root of its row's state after that column. -/
module

public import proofs.«01_k».proof.Proof.Blocks
public import proofs.«01_k».proof.Proof.Tables
public import proofs.«01_k».proof.Proof.First
public import proofs.«01_k».proof.Proof.Second

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen Cert.Ema

local notation "𝕄" => MT nD τ sig Unit (Elt Ideal) ℕ (UR sig nD τ) ℕ

/-! ## The result array -/

/-- Row `f` of batch entry `b` of an array. -/
def row (X : Vec Ideal S32x513x4000 .f32) (b : Fin 32) (f : Fin 513) : Fin 4000 → EReal := fun n => X (ix3 b f n)

/-- The result array of an input array. -/
def target (X : Vec Ideal S32x513x4000 .f32) : Vec Ideal S32x513x4000 .f32 := fun i =>
  (result (i 1).val (row X (i 0) (i 1)) (i 2) : EReal)

/-- The amplitudes of the rows of row block `k`. -/
def amounts (X : Vec Ideal S32x513x4000 .f32) (k : ℕ) (g : Fin 2) (f : Fin 513) (n : ℕ) : ℝ :=
  drive (row X (Fin.ofNat 32 (2 * k + g.val)) f) n

/-- What the body computes from block `t` of the input is block `t` of the result array, where the block lies inside the array. -/
theorem outOf_target (X : Vec Ideal S32x513x4000 .f32) (i : grid0.Coords) (t : ℕ) (hi : (i 1).val = t % 2) (x : Vec Ideal S2x513x2048 .f32)
    (hx : ∀ y : S2x513x2048.Idx, 2048 * (t % 2) + (y 2).val < 4000 → x y = X (spot t y)) (y : S2x513x2048.Idx)
    (hy : 2048 * (t % 2) + (y 2).val < 4000) : outOf i (amounts X (t / 2)) x y = target X (spot t y) := by
  unfold outOf target result
  rw [hx y hy, hi]
  have h2 : ((spot t y) 2).val = 2048 * (t % 2) + (y 2).val := Nat.mod_eq_of_lt hy
  have hr : row X ((spot t y) 0) ((spot t y) 1) ((spot t y) 2) = X (spot t y) := congrArg X (by
    funext a; match a with | ⟨0, _⟩ => rfl | ⟨1, _⟩ => rfl | ⟨2, _⟩ => rfl)
  rw [hr, h2]
  rfl

/-- The body's surroundings at point `t`, from what it finds in its input blocks. -/
theorem env_at (X : Vec Ideal S32x513x4000 .f32) (i : grid0.Coords) (t : ℕ) (hi : (i 1).val = t % 2) (x : Vec Ideal S2x513x2048 .f32)
    (u v : FVec Ideal S256x256 .bf16)
    (hx : ∀ y : S2x513x2048.Idx, 2048 * (t % 2) + (y 2).val < 4000 → x y = X (spot t y))
    (hu : ∀ p q : Fin 256, u (ix2 p q) = ((weight p q : ℝ) : EReal))
    (hv : ∀ p q : Fin 256, v (ix2 p q) = if p.val = 255 then ((α ^ (q.val + 1) : ℝ) : EReal) else 0) :
    Env i x u v (amounts X (t / 2)) where
  weights := hu
  powers := hv
  inner g f j hj := by
    rw [hi] at hj ⊢
    rw [hx (ix3 g f j) hj, amounts, drive, dif_pos hj]
    refine congrArg (fun z => amp (X z)) ?_
    funext a
    match a with
    | ⟨0, _⟩ => rfl
    | ⟨1, _⟩ => rfl
    | ⟨2, _⟩ => exact Fin.ext (Nat.mod_eq_of_lt hj)
  outer g f n hn := by rw [amounts, drive, dif_neg (not_lt.2 hn)]
  nonneg g f n := drive_nonneg _ _

/-! ## The proof's data -/

variable (m : (ℓ : Loc nD τ sig) → Buf (Elt Ideal) ℓ) (ρ : Dev nD → PrngReg)

/-- The input array of core `c`. -/
abbrev input (c : Dev nD) : Vec Ideal S32x513x4000 .f32 := m ((c.tc : Thread nD τ).loc main_arg0)

/-- The scratch that the kernel carries, as a memref. -/
abbrev scratch : Memref sig .tc .vmem S2x513x256 .bf16 := Memref.whole cc0_scratch0

/-- What a launch holds besides the windows: the scratch at some contents and the core's generator register. -/
theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- Before point `t` the scratch holds, if the point is a second time block, the states after the first. -/
def Carries (X : Vec Ideal S32x513x4000 .f32) (t : ℕ) (d : Vec Ideal S2x513x256 .bf16) : Prop :=
  t % 2 = 1 → ∀ (g : Fin 2) (f : Fin 513), d (ix3 g f 255) = ((stateOf (amounts X (t / 2)) g f 2048 : ℝ) : EReal)

/-- The proof's data: the inputs are left as found, the output block is left at the result array's block where it lies inside the array,
    and between points the scratch carries the states. -/
def rdat (c : Dev nD) : RDat τ (Elt Ideal) Unit ℕ (UR sig nD τ) ℕ cfg0 c where
  A w := V m c (Pipeline.arrRef spec0 w)
  after := fun
    | 0 => fun _ Y X => X = Y
    | 1 => fun _ Y X => X = Y
    | 2 => fun _ Y X => X = Y
    | 3 => fun t _ X => ∀ y : S2x513x2048.Idx, 2048 * (t.val % 2) + (y 2).val < 4000 → X y = target (input m c) (spot t.val y)
    | ⟨_ + 4, h⟩ => absurd h (Nat.not_lt.2 (Nat.le_add_left _ _))
  Φ t := iprop((∃ d, ⌜Carries (input m c) t.val d⌝ ∗ owns (c : Thread nD τ) scratch fullShare d) ∗ (∃ r, prngReg c r))
  q _ := fullShare
  owed _ := 0

/-- What the body finds of the input: its block of the input array, where the block lies inside the array. -/
theorem finds_input (c : Dev nD) (t : Fin cfg0.N) (Y : Vec Ideal S2x513x2048 .f32) (h : (rdat m c).Finds 0 t Y) (y : S2x513x2048.Idx)
    (hy : 2048 * (t.val % 2) + (y 2).val < 4000) : Y y = input m c (spot t.val y) := by
  obtain ⟨d, rfl⟩ := ((rdat m c).finds_of_fetch (fetch0_0 t) Y).1 h
  have hm := moved_in t y hy
  refine (dif_pos hm : (cfg0.win 0).fill (grid0.coords t) d ((rdat m c).blockOf 0 t) y = _).trans ?_
  refine (congrArg (V m c main_arg0 : S32x513x4000.Idx → EReal) (emb_in t _ y (fun _ => rfl) hy)).trans ?_
  exact congrFun (V_main_arg0 m c) _

/-- What the body finds of the weights: the whole table. -/
theorem finds_weights (c : Dev nD) (t : Fin cfg0.N) (Y : Vec Ideal S256x256 .bf16) (h : (rdat m c).Finds 1 t Y) (p q : Fin 256) :
    Y (ix2 p q) = ((weight p q : ℝ) : EReal) := by
  obtain ⟨d, rfl⟩ := RDat.finds_in_eq_fetched (rdat m c) 1 rfl (fun _ _ _ => rfl) (fun _ _ _ h => h) t Y h
  refine Eq.trans ?_ (weights_eq m c p q)
  refine congrArg (V m c main_call0_v26 : S256x256.Idx → EReal) ?_
  funext a
  refine Fin.ext ?_
  match a with
  | ⟨0, _⟩ => exact (by omega : 0 * 256 + 1 * p.val = p.val)
  | ⟨1, _⟩ => exact (by omega : 0 * 256 + 1 * q.val = q.val)

/-- What the body finds of the powers: the whole table. -/
theorem finds_powers (c : Dev nD) (t : Fin cfg0.N) (Y : Vec Ideal S256x256 .bf16) (h : (rdat m c).Finds 2 t Y) (p q : Fin 256) :
    Y (ix2 p q) = if p.val = 255 then ((α ^ (q.val + 1) : ℝ) : EReal) else 0 := by
  obtain ⟨d, rfl⟩ := RDat.finds_in_eq_fetched (rdat m c) 2 rfl (fun _ _ _ => rfl) (fun _ _ _ h => h) t Y h
  refine Eq.trans ?_ (powers_eq m c p q)
  refine congrArg (V m c main_call0_v27 : S256x256.Idx → EReal) ?_
  funext a
  refine Fin.ext ?_
  match a with
  | ⟨0, _⟩ => exact (by omega : 0 * 256 + 1 * p.val = p.val)
  | ⟨1, _⟩ => exact (by omega : 0 * 256 + 1 * q.val = q.val)

/-- The body's row of the program table, at point `t`'s staging buffers. -/
theorem body_row (t : Fin cfg0.N) : defs₀ (F := Ideal) .tc cfg0.body (cfg0.bodyArgs t (cfg0.slots t)) = bodyAt0 t := by
  unfold defs₀; rw [Defs.onTc_tc]

/-- The body's obligation at every point. -/
theorem body_ok (c : Dev nD) : (rdat m c).BodyObligation (defs₀ (F := Ideal)) Variants.none () Set.univ := fun t Y hY => by
  have hi : (grid0.coords t 1).val = t.val % 2 := (coords_eq t).2
  have hx := finds_input m c t (Y 0) (hY 0)
  have henv := env_at (input m c) (grid0.coords t) t.val hi (Y 0) (Y 1) (Y 2) hx (finds_weights m c t (Y 1) (hY 1)) (finds_powers m c t (Y 2) (hY 2))
  have hout := outOf_target (input m c) (grid0.coords t) t.val hi (Y 0) hx
  rw [bigSep_W0, bigSep_W0, body_row,
    show (rdat m c).Φ t.castSucc = iprop((∃ d, ⌜Carries (input m c) t.val d⌝ ∗ owns (c : Thread nD τ) scratch fullShare d) ∗ (∃ r, prngReg c r)) from rfl,
    show (rdat m c).Φ t.succ = iprop((∃ d, ⌜Carries (input m c) (t.val + 1) d⌝ ∗ owns (c : Thread nD τ) scratch fullShare d) ∗ (∃ r, prngReg c r)) from rfl,
    show (rdat m c).owesAt () t.succ = (rdat m c).owesAt () t.castSucc from rfl]
  unfold bodyAt0
  by_cases hc : First (grid0.coords t)
  · have h0 : t.val % 2 = 0 := (first_iff t).1 hc
    iintro ⟨⟨⟨%d, %hd, HS⟩, Hg⟩, Ho, H0, H1, H2, H3⟩
    iapply ((runFirst c (grid0.coords t) _ _ _ _ _ _ _ _ _ _ hc (Y 0) (Y 1) (Y 2)).2.2 Set.univ _)
    isplitl [H0]; · iexact H0
    isplitl [H1]; · iexact H1
    isplitl [H2]; · iexact H2
    isplitl [H3]; · iexists _; iexact H3
    isplitl [HS]; · iexists _; iexact HS
    iintro ⟨H0, H1, H2, ⟨%fo, H3⟩, ⟨%fs, HS⟩⟩
    isplitl [HS Hg]
    · isplitl [HS]
      · iexists _; isplitr
        swap
        · unfold owns; iexists _; isplitr
          swap; · iexact HS
          ipureintro; rfl
        ipureintro
        intro _ g f
        refine (scratchFirst c (grid0.coords t) _ _ _ _ _ _ _ _ _ _ (Y 0) (Y 1) (Y 2) (amounts (input m c) (t.val / 2)) hc (hi.trans h0) henv fs g f).trans ?_
        rw [hi, h0, show (t.val + 1) / 2 = t.val / 2 by omega]
      iexact Hg
    isplitl [Ho]; · iexact Ho
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    iexists _; isplitr
    swap
    · unfold owns; iexists _; isplitr
      swap; · iexact H3
      ipureintro; rfl
    ipureintro
    intro y hy
    exact (congrFun (outputFirst c (grid0.coords t) _ _ _ _ _ _ _ _ _ _ (Y 0) (Y 1) (Y 2) (amounts (input m c) (t.val / 2)) hc (hi.trans h0) henv fo) y).trans (hout y hy)
  · have h1 : t.val % 2 = 1 := (Nat.mod_two_eq_zero_or_one t.val).resolve_left fun h => hc ((first_iff t).2 h)
    iintro ⟨⟨⟨%d, %hd, HS⟩, Hg⟩, Ho, H0, H1, H2, H3⟩
    have hs : ∀ (g : Fin 2) (f : Fin 513), d (ix3 g f 255)
        = ((stateOf (amounts (input m c) (t.val / 2)) g f (2048 * (grid0.coords t 1).val) : ℝ) : EReal) := fun g f => by
      rw [hi, h1]; exact hd h1 g f
    iapply ((runSecond c (grid0.coords t) _ _ _ _ _ _ _ _ _ _ hc (Y 0) (Y 1) (Y 2) d).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%fo, H3⟩, ⟨%fs, HS⟩⟩
    isplitl [HS Hg]
    · isplitl [HS]
      · iexists _; isplitr
        swap
        · unfold owns; iexists _; isplitr
          swap; · iexact HS
          ipureintro; rfl
        ipureintro
        intro h
        omega
      iexact Hg
    isplitl [Ho]; · iexact Ho
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    iexists _; isplitr
    swap
    · unfold owns; iexists _; isplitr
      swap; · iexact H3
      ipureintro; rfl
    ipureintro
    intro y hy
    exact (congrFun (outputSecond c (grid0.coords t) _ _ _ _ _ _ _ _ _ _ (Y 0) (Y 1) (Y 2) d (amounts (input m c) (t.val / 2)) hc henv hs fo) y).trans (hout y hy)

/-- A launch starts with the scratch at anything. -/
theorem enter (c : Dev nD) : (Pipeline.ΦA spec0 c : sProp 𝕄) ⊢ (rdat m c).Φ 0 := by
  rw [rest_eq, show (rdat m c).Φ 0 = iprop((∃ d, ⌜Carries (input m c) 0 d⌝ ∗ owns (c : Thread nD τ) scratch fullShare d) ∗ (∃ r, prngReg c r)) from rfl]
  iintro ⟨⟨%d, HS⟩, Hg⟩
  isplitl [HS]
  · iexists _; isplitr
    swap; · iexact HS
    ipureintro; intro h; exact absurd h (by decide)
  iexact Hg

/-- A launch gives the scratch back at whatever it holds. -/
theorem leave (c : Dev nD) : (rdat m c).Φ (Fin.last cfg0.N) ⊢ (Pipeline.ΦA spec0 c : sProp 𝕄) := by
  rw [rest_eq, show (rdat m c).Φ (Fin.last cfg0.N)
    = iprop((∃ d, ⌜Carries (input m c) cfg0.N d⌝ ∗ owns (c : Thread nD τ) scratch fullShare d) ∗ (∃ r, prngReg c r)) from rfl]
  iintro ⟨⟨%d, -, HS⟩, Hg⟩
  isplitl [HS]
  · iexists _; iexact HS
  iexact Hg

/-- The result array after a run. -/
theorem result_at (r : PUnit × MemSt nD τ sig (Elt Ideal)) (h : RDat.FramePost cfg0 (rdat m) (V m) r) (c : Dev nD) :
    r.2.mem ((c.tc : Thread nD τ).loc main_v0) = target (input m c) := by
  obtain ⟨after, hL, hA⟩ := RDat.FramePost.exists_exact h c
  refine (hA 3).trans (Pipeline.Dat.arrAt_eq_of_covers _ 3 (target (input m c)) covers_out fun t hf z => ?_)
  obtain ⟨Y, -, hX⟩ := hL 3 t hf
  obtain ⟨he, hz⟩ := emb_out t z
  exact (hX ((cfg0.win 3).xinj (grid0.coords t) z) hz).trans (congrArg (target (input m c)) he.symm)

set_option backward.isDefEq.respectTransparency.types false in
/-- Every run of the program ends with the result array at its target, the argument array as it was and every semaphore counter at zero. -/
theorem run : θ_run defs (onTc (τ := τ) (main (F := Ideal))) ⟨m, fun _ => 0, ρ⟩ (fun r => (∀ c : Dev nD,
      r.2.mem ((c.tc : Thread nD τ).loc main_v0) = target (input m c)
      ∧ r.2.mem ((c.tc : Thread nD τ).loc main_arg0) = m ((c.tc : Thread nD τ).loc main_arg0)) ∧ r.2.sem = fun _ => 0) :=
  Pipeline.RDat.θ_run_frame_track cfgs (0 : Fin 1) launch0 defs₀ Variants.none (rdat m) m ρ main (hbody := body_ok m)
    (hshare := fun c => (rdat m c).share_full fun _ => rfl) (howed := fun _ _ => rfl) (V := V m) (hmain := hmain m Variants.none)
    (hA := fun _ _ => rfl) (hin := enter m) (hout := leave m) (Q' := _)
    (hQ' := fun r h => ⟨fun c => ⟨result_at m r h.1 c, (h.1.arr_in c 0 rfl).trans (V_main_arg0 m c)⟩, h.2⟩)

end Cert.KernelIdeal.Run

end
-- ==== Proof.RefRun.lean ====
/- The reference's run over the states of its loop: the buffers before trip `k` hold the `k`-th state of the sequence that starts at the
   initial one and goes on trip by trip, so the result is a function of state 4000. -/
module

public import proofs.«01_k».proof.Proof.Gen.ReferenceIdeal.Run
public import proofs.«01_k».proof.Proof.Gen.ReferenceIdeal.Step
public import Idealize.ShloMosaic.Lib.Quiescent

@[expose] public section

set_option maxRecDepth 16384

noncomputable section

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- The reference's sequence of states: its initial one, then one trip after the other. -/
def iter (X : (⟨S32x513x4000, .f32⟩ : BufTy).Contents (Elt F)) : ℕ → State F
  | 0 => Step.init X
  | n + 1 => Step.step n (iter X n)

/-- The buffers hold state `s` before trip `j`: the carried arrays, the array the loop reads, the counter and the weight. -/
structure At (V : Valuation τ sig (Elt F)) (s : State F) (j : ℕ) : Prop where
  carried : V (Proc.devRef .tc main_v10_3) = s.main_v10_3
  outputs : V (Proc.devRef .tc main_v10_4) = s.main_v10_4
  input : V (Proc.devRef .tc main_v10_0) = s.main_v10_0
  counter : V (Proc.devRef .tc main_v10_2) = constantI S_ 32 (BitVec.ofNat 32 j)
  weight : V (Proc.devRef .tc main_v10_1) = Step.K_main_cst_3 (F := F)

variable {V : Valuation τ sig (Elt F)} {s : State F} {j : ℕ}

/-- The new state of every row, of the buffers before the trip. -/
theorem trip_carried (h : At V s j) : res_main_while0b_v20 V = Step.b10 j s := by
  unfold res_main_while0b_v20
  rw [h.carried, h.input, h.counter, h.weight]
  rfl

/-- One trip takes the buffers from a state to the next. -/
theorem At.next (h : At V s j) : At (STEP V) (Step.step j s) (j + 1) where
  carried := by
    rw [STEP_main_v10_3, step_main_v10_3, id, trip_carried h]; rfl
  outputs := by
    rw [STEP_main_v10_4, step_main_v10_4, id, trip_carried h, h.outputs, h.counter]; rfl
  input := by rw [STEP_main_v10_0, h.input]; rfl
  counter := by
    rw [STEP_main_v10_2, step_main_v10_2, id, h.counter]
    funext i
    show BitVec.ofNat 32 j + 1#32 = BitVec.ofNat 32 (j + 1)
    rw [BitVec.ofNat_add]
  weight := by rw [STEP_main_v10_1, h.weight]

variable (m : (ℓ : Loc nD τ sig) → Buf (Elt F) ℓ) (ρ : Dev nD → PrngReg) (c : Dev nD)

set_option maxRecDepth 65536 in
/-- The operations before the loop leave the initial state. -/
theorem entry : At (entryContents preI m c) (iter (m ((c.tc : Thread nD τ).loc main_arg0)) 0) 0 := by
  constructor <;> (simp only [entryContents, afterL_cons, afterL_nil]; after_reads_simp) <;> rfl

/-- Before trip `k` the buffers hold state `k`. -/
theorem at_trip : ∀ k, At (STEP^[k] (entryContents preI m c)) (iter (m ((c.tc : Thread nD τ).loc main_arg0)) k) k
  | 0 => entry m c
  | k + 1 => by rw [Function.iterate_succ_apply']; exact (at_trip k).next

/-- Every run of the reference ends with the result at its function of state 4000 and the argument unchanged. -/
theorem run : θ_run (defs (F := F)) (onTc (τ := τ) (main (F := F))) ⟨m, fun _ => 0, ρ⟩ fun r => ∀ c : Dev nD,
      r.2.mem ((c.tc : Thread nD τ).loc main_v13)
          = Step.R_main_v13 (iter (m ((c.tc : Thread nD τ).loc main_arg0)) 4000) (m ((c.tc : Thread nD τ).loc main_arg0))
      ∧ r.2.mem ((c.tc : Thread nD τ).loc main_arg0) = m ((c.tc : Thread nD τ).loc main_arg0) :=
  (θ_run defs _ _).mono (fun _ h c => ⟨(h c).1.trans (by
    unfold out_main_v13 Step.R_main_v13
    rw [(at_trip m c 4000).outputs, iter_main_arg0 m c 4000]), (h c).2⟩) (Value.run m ρ)

/-- Every run of the reference ends with the argument unchanged and every semaphore counter at zero: it has no semaphore. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (Value.run m ρ)

end Cert.ReferenceIdeal.Ref

end
-- ==== Proof.Ref.lean ====
/- What the reference computes: after `k` trips of its loop the carried state of every row is that row's state after `k` steps, and the
   first `k` slots of its output hold the states after each of them; the result is the input over their square roots. -/
module

public import proofs.«01_k».proof.Proof.Consts
public import proofs.«01_k».proof.Proof.RefRun
public import Idealize.ShloMosaic.Lib.Pointwise
public import Idealize.ShloMosaic.Lib.DynamicIndex

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Step Cert.Ema

/-- Row `(b, f)` of an array: its 4000 entries. -/
abbrev row (X : S32x513x4000.Idx → EReal) (b : Fin 32) (f : Fin 513) : Fin 4000 → EReal := fun n => X (ix3 b f n)

/-- The initial state: row `f` starts at `start f`. -/
theorem init_state (i : S32x513.Idx) : K_main_v7 (F := Ideal) i = ((start (i 1).val : ℝ) : EReal) := by
  idx_vars i
  pointwise [K_main_v7, K_main_v6, K_main_v5, K_main_v4, K_main_v3, K_main_cst_2, K_main_call0_v16, K_main_call0_v15, K_main_call0_v14,
    K_main_call0_v13, K_main_call0_v12, K_main_call0_v11, K_main_call0_v10, K_main_call0_v9, K_main_call0_v8, K_main_call0_cst_1,
    K_main_call0_v7, K_main_call0_v6, K_main_call0_v5, K_main_call0_cst_0, K_main_call0_v4, K_main_call0_v1, K_main_call0_v0,
    K_main_cst_1, K_main_cst_0]
  have hn : FloatOps.sitofp (F := Ideal) .f32 (BitVec.ofNat 32 i1.val) = ((i1.val : ℝ) : EReal) := by
    show (((BitVec.ofNat 32 i1.val).toInt : ℝ) : EReal) = _
    rw [toInt_ofNat (by omega)]; simp
  have hten : (id (constant (F := Ideal) S_ .f32 0x41200000#32) ix0 : EReal) = ((10 : ℝ) : EReal) := word_ten
  have hone : (id (constant (F := Ideal) S_ .f32 0x3F800000#32) ix0 : EReal) = ((1 : ℝ) : EReal) := word_one
  have h1 : (1 : EReal) = ((1 : ℝ) : EReal) := rfl
  rw [hten, hone, hn, word_512, word_10000, Ideal.div_coe (by norm_num), Ideal.div_coe (by norm_num), h1]
  split
  · norm_cast
    unfold start
    congr 1
    push_cast
    ring
  · next h =>
    have : i1.val = 512 := by omega
    norm_cast
    unfold start
    congr 1
    rw [this]
    norm_num

/-- No trip changes the array the loop reads. -/
theorem iter_input (X : S32x513x4000.Idx → EReal) : ∀ n, (iter (F := Ideal) X n).main_v10_0 = A_main_v8 (F := Ideal) X
  | 0 => rfl
  | n + 1 => iter_input X n

/-- The array the loop reads, at step `n`: the amplitude of each row's entry. -/
theorem input_at (X : S32x513x4000.Idx → EReal) (hX : ∀ i, X i < ⊤) (n : Fin 4000) (b : Fin 32) (f : Fin 513) :
    A_main_v8 (F := Ideal) X (ix3 n b f) = ((amp (X (ix3 b f n)) : ℝ) : EReal) := by
  pointwise [A_main_v8, A_main_v2, A_main_v1, K_main_v0, K_main_cst]
  rw [word_ε, sqrt_max (hX _)]

/-- The slice a trip takes: entry `j` of every row's amplitudes. -/
theorem slice_at (j : ℕ) (hj : j < 4000) (s : State Ideal) (b : Fin 32) (f : Fin 513) :
    b2 j s (ix3 0 b f) = s.main_v10_0 (ix3 ⟨j, hj⟩ b f) := by
  unfold b2 Host.dynamicSlice extractStridedSlice
  refine congrArg s.main_v10_0 (funext fun a => Fin.ext ?_)
  have e : (BitVec.ofNat 32 j).toInt = j := toInt_ofNat (by omega)
  match a with
  | ⟨0, _⟩ =>
    show (min (max (BitVec.ofNat 32 j).toInt 0) ((4000 - 1 : ℕ) : ℤ)).toNat + 0 = j
    rw [e]; omega
  | ⟨1, _⟩ =>
    show (min (max (BitVec.toInt (0#32 : BitVec 32)) 0) ((32 - 32 : ℕ) : ℤ)).toNat + b.val = b.val
    simp
  | ⟨2, _⟩ =>
    show (min (max (BitVec.toInt (0#32 : BitVec 32)) 0) ((513 - 513 : ℕ) : ℤ)).toNat + f.val = f.val
    simp

/-- One trip's new state at a row. -/
theorem trip_at (j : ℕ) (hj : j < 4000) (s : State Ideal) (b : Fin 32) (f : Fin 513) :
    b10 j s (ix2 b f) = s.main_v10_0 (ix3 ⟨j, hj⟩ b f) * ((1 : EReal) - (α : EReal)) + s.main_v10_3 (ix2 b f) * (α : EReal) := by
  have h : b3 j s (ix2 b f) = s.main_v10_0 (ix3 ⟨j, hj⟩ b f) := by
    rw [← slice_at j hj s b f]; pointwise [b3]
  pointwise [b10, b9, b8, b7, b6, b5, b4, K_main_cst_3]
  rw [h, word_α]

/-- What one trip leaves in the output: the new state at slot `j`, the other slots kept. -/
theorem out_at (j : ℕ) (hj : j < 4000) (s : State Ideal) (n : Fin 4000) (b : Fin 32) (f : Fin 513) :
    b14 j s (ix3 n b f) = if n.val = j then b10 j s (ix2 b f) else s.main_v10_4 (ix3 n b f) := by
  have e : (BitVec.ofNat 32 j).toInt = j := toInt_ofNat (by omega)
  have e0 : (min (max (BitVec.ofNat 32 j).toInt 0) ((4000 - 1 : ℕ) : ℤ)).toNat = j := by rw [e]; omega
  unfold b14 Host.dynamicUpdateSlice updateSlice
  split
  · next h =>
    have h0 := h 0
    change (min (max (BitVec.ofNat 32 j).toInt 0) ((4000 - 1 : ℕ) : ℤ)).toNat ≤ n.val
      ∧ n.val < (min (max (BitVec.ofNat 32 j).toInt 0) ((4000 - 1 : ℕ) : ℤ)).toNat + 1 at h0
    rw [e0] at h0
    rw [if_pos (by omega)]
    show b10 j s _ = b10 j s (ix2 b f)
    refine congrArg (b10 j s) (funext fun a => Fin.ext ?_)
    match a with
    | ⟨0, _⟩ => rfl
    | ⟨1, _⟩ => rfl
  · next h =>
    rw [if_neg]
    rintro rfl
    refine h fun a => ?_
    match a with
    | ⟨0, _⟩ =>
      show (min (max (BitVec.ofNat 32 n.val).toInt 0) ((4000 - 1 : ℕ) : ℤ)).toNat ≤ n.val
        ∧ n.val < (min (max (BitVec.ofNat 32 n.val).toInt 0) ((4000 - 1 : ℕ) : ℤ)).toNat + 1
      rw [e0]; omega
    | ⟨1, _⟩ =>
      show (min (max (BitVec.toInt (0#32 : BitVec 32)) 0) ((32 - 32 : ℕ) : ℤ)).toNat ≤ b.val
        ∧ b.val < (min (max (BitVec.toInt (0#32 : BitVec 32)) 0) ((32 - 32 : ℕ) : ℤ)).toNat + 32
      have := b.isLt; simp
    | ⟨2, _⟩ =>
      show (min (max (BitVec.toInt (0#32 : BitVec 32)) 0) ((513 - 513 : ℕ) : ℤ)).toNat ≤ f.val
        ∧ f.val < (min (max (BitVec.toInt (0#32 : BitVec 32)) 0) ((513 - 513 : ℕ) : ℤ)).toNat + 513
      have := f.isLt; simp

/-- After `k` trips: every row's state, and the states before it in the output. -/
theorem iter_at (X : S32x513x4000.Idx → EReal) (hX : ∀ i, X i < ⊤) : ∀ k, k ≤ 4000 →
    (∀ b f, ((iter (F := Ideal) X k).main_v10_3 (ix2 b f) : EReal) = ((rowState f.val (row X b f) k : ℝ) : EReal))
      ∧ ∀ n b f, n.val < k → ((iter (F := Ideal) X k).main_v10_4 (ix3 n b f) : EReal) = ((rowState f.val (row X b f) (n.val + 1) : ℝ) : EReal)
  | 0, _ => ⟨fun b f => init_state (ix2 b f), fun n b f h => absurd h (Nat.not_lt_zero _)⟩
  | k + 1, hk => by
    have ih := iter_at X hX k (by omega)
    have hs : ∀ b f, b10 k (iter (F := Ideal) X k) (ix2 b f) = ((rowState f.val (row X b f) (k + 1) : ℝ) : EReal) := by
      intro b f
      rw [trip_at k (by omega), ih.1, iter_input, input_at X hX]
      rw [← EReal.coe_one, ← EReal.coe_sub, ← EReal.coe_mul, ← EReal.coe_mul, ← EReal.coe_add]
      congr 1
      show _ = (1 - α) * drive (row X b f) k + α * rowState f.val (row X b f) k
      rw [drive, dif_pos (by omega)]; ring
    refine ⟨hs, fun n b f hn => ?_⟩
    show b14 k (iter (F := Ideal) X k) (ix3 n b f) = _
    rw [out_at k (by omega)]
    split
    · next h => rw [hs, h]
    · next h => exact ih.2 n b f (by omega)

/-- The reference's result: every entry over the square root of its row's state after it. -/
theorem result_eq (X : S32x513x4000.Idx → EReal) (hX : ∀ i, X i < ⊤) (i : S32x513x4000.Idx) :
    (R_main_v13 (iter (F := Ideal) X 4000) X i : EReal) = result (i 1).val (row X (i 0) (i 1)) (i 2) := by
  idx_vars i
  pointwise [R_main_v13]
  rw [(iter_at X hX 4000 le_rfl).2 _ _ _ (Fin.isLt _), div_sqrt (rowState_pos (Fin.isLt _) _ _)]
  rfl

end Cert.ReferenceIdeal.Ref

end
-- ==== Proof.lean ====
module

public import proofs.«01_k».proof.Defs
public import proofs.«01_k».proof.Proof.KernelFrame
public import proofs.«01_k».proof.Proof.KernelValue
public import proofs.«01_k».proof.Proof.RefRun
public import proofs.«01_k».proof.Proof.Ref

@[expose] public section

noncomputable section

namespace Cert.Proof

open Idealize.ShloMosaic Idealize.SL.Sem

/-- The side condition that the precondition states of its shapes. -/
theorem pre_facts : Cert.Pre_below_infinity.Facts := ⟨by decide⟩

/-- The frame of the program as it was written. -/
theorem frame_kernel : Cert.quiescent_Kernel (hKernel := Cert.Kernel.Gen.facts) := fun m g _ =>
  Cert.Kernel.Run.frame m g

/-- The frame of the program with its two constants named. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Run.run m g)

/-- The frame of the reference. -/
theorem frame_reference : Cert.quiescent_ReferenceIdeal (hReferenceIdeal := Cert.ReferenceIdeal.Gen.facts) := fun m g _ =>
  Cert.ReferenceIdeal.Ref.frame m g

/-- Each of the two named constants meets what the naming of a constant asks, at the word that it replaces. -/
theorem preserves : Cert.preserves_Kernel_KernelIdeal :=
  ⟨IdealRules.named_const.statement Cert.KernelIdeal.κ "init_step" .f32 0xB5EBEDFA#32 ((-9 / 5120000 : ℝ) : EReal) rfl,
    IdealRules.named_const.statement Cert.KernelIdeal.κ "init_first" .f32 0x3A83126F#32 ((1 / 1000 : ℝ) : EReal) rfl⟩

/-- The precondition says of every entry that it is below infinity. -/
theorem below (m : (ℓ : Loc Cert.KernelIdeal.nD Cert.KernelIdeal.τ Cert.KernelIdeal.sig) → Buf (Elt Ideal) ℓ)
    (h : Cert.Pre_KernelIdeal_below_infinity (hPre_below_infinity := pre_facts) m) (c : Dev Cert.KernelIdeal.nD)
    (i : Cert.KernelIdeal.S32x513x4000.Idx) : Cert.KernelIdeal.Run.input m c i < (⊤ : EReal) := by
  have h1 : BitVec.ofBool (decide (Cert.KernelIdeal.Run.input m c i < Ideal.ofBits .f32 0x7F800000#32)) = 1#1 := congrFun (h c) i
  rw [Cert.Ema.word_top] at h1
  by_contra hn
  rw [decide_eq_false hn] at h1
  exact absurd h1 (by decide)

/-- The program with its two constants named computes the reference's function. -/
theorem algebraic : Cert.algebraic_KernelIdeal_ReferenceIdeal_pre_below_infinity (hKernelIdeal := Cert.KernelIdeal.Gen.facts)
    (hReferenceIdeal := Cert.ReferenceIdeal.Gen.facts) (hPre_below_infinity := pre_facts) := fun m g m' g' hpre harg =>
  ⟨fun c => Cert.KernelIdeal.Run.target (Cert.KernelIdeal.Run.input m c),
    (θ_run _ _ _).mono (fun _ h => h.1) (Cert.KernelIdeal.Run.run m g),
    (θ_run _ _ _).mono (fun _ h c => ⟨(h c).1.trans (by
      rw [harg c]
      exact funext fun i => Cert.ReferenceIdeal.Ref.result_eq (Cert.KernelIdeal.Run.input m c) (below m hpre c) i), (h c).2⟩)
      (Cert.ReferenceIdeal.Ref.run m' g')⟩

theorem claim : Cert.Claim :=
  ⟨Cert.Kernel.Gen.facts, Cert.KernelIdeal.Gen.facts, Cert.ReferenceIdeal.Gen.facts, pre_facts, frame_kernel, frame_ideal,
    fun m g _ => frame_ideal m g trivial, frame_reference, fun m g _ => frame_reference m g trivial, preserves, algebraic⟩

end Cert.Proof

end
